-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0))
      ∧ r.2.sem = fun _ => 0)

def preserves_Kernel_KernelIdeal : Prop :=
  IdealRules.named_const.Statement Cert.KernelIdeal.κ "scale_log2e" .f32 0x3DE995B3#32 (((Real.sqrt 160)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Gates_GatesIdeal : Prop :=
  IdealRules.named_const.Statement Cert.GatesIdeal.κ "log2e" .f32 0x3FB8AA3B#32 (((Real.log 2)⁻¹ : ℝ) : EReal)

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)) →
    ∃ (v0 : (c : Dev Cert.GatesIdeal.nD) → Buf (Elt Ideal) ((c.tc : Thread Cert.GatesIdeal.nD Cert.GatesIdeal.τ).loc Cert.GatesIdeal.main_v2_0)) (v1 : (c : Dev Cert.GatesIdeal.nD) → Buf (Elt Ideal) ((c.tc : Thread Cert.GatesIdeal.nD Cert.GatesIdeal.τ).loc Cert.GatesIdeal.main_v2_1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v2_0) = v0 c
          ∧ r.2.mem ((c.tc : Thread Cert.GatesIdeal.nD Cert.GatesIdeal.τ).loc Cert.GatesIdeal.main_v2_1) = v1 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v6) = v0 c
          ∧ r.2.mem ((c.tc : Thread Cert.GatesReferenceIdeal.nD Cert.GatesReferenceIdeal.τ).loc Cert.GatesReferenceIdeal.main_v7) = v1 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0))

def Claim : Prop :=
  ∃ (hKernel : Cert.Kernel.Facts) (hKernelIdeal : Cert.KernelIdeal.Facts) (hReferenceIdeal : Cert.ReferenceIdeal.Facts) (hGates : Cert.Gates.Facts) (hGatesIdeal : Cert.GatesIdeal.Facts) (hGatesReferenceIdeal : Cert.GatesReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Gates (hGates := hGates)
    ∧ quiescent_GatesIdeal (hGatesIdeal := hGatesIdeal)
    ∧ quiescent_GatesReferenceIdeal (hGatesReferenceIdeal := hGatesReferenceIdeal)
    ∧ preserves_Kernel_KernelIdeal
    ∧ algebraic_KernelIdeal_ReferenceIdeal (hKernelIdeal := hKernelIdeal) (hReferenceIdeal := hReferenceIdeal)
    ∧ preserves_Gates_GatesIdeal
    ∧ algebraic_GatesIdeal_GatesReferenceIdeal (hGatesIdeal := hGatesIdeal) (hGatesReferenceIdeal := hGatesReferenceIdeal)
-- ==== Kernel.lean ====
abbrev S2x6144x24x160 : Shape := ⟨4, ![2, 6144, 24, 160]⟩
abbrev S2x24 : Shape := ⟨2, ![2, 24]⟩
abbrev S2x6144x6x160 : Shape := ⟨4, ![2, 6144, 6, 160]⟩
abbrev S2x6 : Shape := ⟨2, ![2, 6]⟩
abbrev S2x6x160 : Shape := ⟨3, ![2, 6, 160]⟩
abbrev S2x6x4x6144 : Shape := ⟨4, ![2, 6, 4, 6144]⟩
abbrev S2x6x6144x4 : Shape := ⟨4, ![2, 6, 6144, 4]⟩
abbrev S2x24x160x6144 : Shape := ⟨4, ![2, 24, 160, 6144]⟩
abbrev S2x6x160x6144 : Shape := ⟨4, ![2, 6, 160, 6144]⟩
abbrev S2x6x4 : Shape := ⟨3, ![2, 6, 4]⟩
abbrev S2x6x160x1 : Shape := ⟨4, ![2, 6, 160, 1]⟩
abbrev S2x6144x3840 : Shape := ⟨3, ![2, 6144, 3840]⟩
abbrev S1x4x160x512 : Shape := ⟨4, ![1, 4, 160, 512]⟩
abbrev S1x1x160x6144 : Shape := ⟨4, ![1, 1, 160, 6144]⟩
abbrev S1x1x160x1 : Shape := ⟨4, ![1, 1, 160, 1]⟩
abbrev S1x1x4x512 : Shape := ⟨4, ![1, 1, 4, 512]⟩
abbrev S1x1x6144x4 : Shape := ⟨4, ![1, 1, 6144, 4]⟩
abbrev S1x512x640 : Shape := ⟨3, ![1, 512, 640]⟩
abbrev S6144x160 : Shape := ⟨2, ![6144, 160]⟩
abbrev S160x6144 : Shape := ⟨2, ![160, 6144]⟩
abbrev S4x6144x128 : Shape := ⟨3, ![4, 6144, 128]⟩
abbrev S640x512 : Shape := ⟨2, ![640, 512]⟩
abbrev S1x1x6144x1 : Shape := ⟨4, ![1, 1, 6144, 1]⟩
abbrev S6144x1 : Shape := ⟨2, ![6144, 1]⟩
abbrev S6144x128 : Shape := ⟨2, ![6144, 128]⟩
abbrev S1x6144x128 : Shape := ⟨3, ![1, 6144, 128]⟩
abbrev S1x1 : Shape := ⟨2, ![1, 1]⟩
abbrev S1x1x160x512 : Shape := ⟨4, ![1, 1, 160, 512]⟩
abbrev S160x512 : Shape := ⟨2, ![160, 512]⟩
abbrev S1x1x1x512 : Shape := ⟨4, ![1, 1, 1, 512]⟩
abbrev S1x512 : Shape := ⟨2, ![1, 512]⟩
abbrev S512x160 : Shape := ⟨2, ![512, 160]⟩
abbrev S512x512 : Shape := ⟨2, ![512, 512]⟩
abbrev S1x512x128 : Shape := ⟨3, ![1, 512, 128]⟩
abbrev S512x128 : Shape := ⟨2, ![512, 128]⟩
abbrev S512 : Shape := ⟨1, ![512]⟩
abbrev S160x1 : Shape := ⟨2, ![160, 1]⟩
abbrev S512x640 : Shape := ⟨2, ![512, 640]⟩

abbrev nBuf : Space → Nat
  | .hbm => 17
  | .vmem => 20
  | .smem => 1
  | _ => 0

abbrev bufTy : (tb : Table) → Fin (tcTables nBuf tb) → BufTy
  | .hbm, ⟨0, _⟩ => ⟨S2x6144x24x160, .fp8e4m3⟩
  | .hbm, ⟨1, _⟩ => ⟨S2x24, .f32⟩
  | .hbm, ⟨2, _⟩ => ⟨S2x6144x6x160, .fp8e4m3⟩
  | .hbm, ⟨3, _⟩ => ⟨S2x6, .f32⟩
  | .hbm, ⟨4, _⟩ => ⟨S2x6144x6x160, .fp8e4m3⟩
  | .hbm, ⟨5, _⟩ => ⟨S2x6x160, .f32⟩
  | .hbm, ⟨6, _⟩ => ⟨S2x6x4x6144, .f32⟩
  | .hbm, ⟨7, _⟩ => ⟨S2x6x6144x4, .f32⟩
  | .hbm, ⟨8, _⟩ => ⟨S2x24x160x6144, .fp8e4m3⟩
  | .hbm, ⟨9, _⟩ => ⟨S2x6x160x6144, .fp8e4m3⟩
  | .hbm, ⟨10, _⟩ => ⟨S2x6x160x6144, .fp8e4m3⟩
  | .hbm, ⟨11, _⟩ => ⟨S2x6x4, .f32⟩
  | .hbm, ⟨12, _⟩ => ⟨S2x24, .f32⟩
  | .hbm, ⟨13, _⟩ => ⟨S2x24, .f32⟩
  | .hbm, ⟨14, _⟩ => ⟨S2x6x160x1, .f32⟩
  | .hbm, ⟨15, _⟩ => ⟨S2x6144x3840, .bf16⟩
  | .hbm, ⟨16, _⟩ => ⟨S2x6x4x6144, .f32⟩
  | .local _ .vmem, ⟨0, _⟩ => ⟨S1x4x160x512, .fp8e4m3⟩
  | .local _ .vmem, ⟨1, _⟩ => ⟨S1x4x160x512, .fp8e4m3⟩
  | .local _ .vmem, ⟨2, _⟩ => ⟨S1x1x160x6144, .fp8e4m3⟩
  | .local _ .vmem, ⟨3, _⟩ => ⟨S1x1x160x6144, .fp8e4m3⟩
  | .local _ .vmem, ⟨4, _⟩ => ⟨S1x1x160x6144, .fp8e4m3⟩
  | .local _ .vmem, ⟨5, _⟩ => ⟨S1x1x160x6144, .fp8e4m3⟩
  | .local _ .vmem, ⟨6, _⟩ => ⟨S1x1x160x1, .f32⟩
  | .local _ .vmem, ⟨7, _⟩ => ⟨S1x1x160x1, .f32⟩
  | .local _ .vmem, ⟨8, _⟩ => ⟨S1x1x4x512, .f32⟩
  | .local _ .vmem, ⟨9, _⟩ => ⟨S1x1x4x512, .f32⟩
  | .local _ .vmem, ⟨10, _⟩ => ⟨S1x1x6144x4, .f32⟩
  | .local _ .vmem, ⟨11, _⟩ => ⟨S1x1x6144x4, .f32⟩
  | .local _ .vmem, ⟨12, _⟩ => ⟨S1x512x640, .bf16⟩
  | .local _ .vmem, ⟨13, _⟩ => ⟨S1x512x640, .bf16⟩
  | .local _ .vmem, ⟨14, _⟩ => ⟨S1x1x4x512, .f32⟩
  | .local _ .vmem, ⟨15, _⟩ => ⟨S1x1x4x512, .f32⟩
  | .local _ .vmem, ⟨16, _⟩ => ⟨S6144x160, .fp8e4m3⟩
  | .local _ .vmem, ⟨17, _⟩ => ⟨S160x6144, .bf16⟩
  | .local _ .vmem, ⟨18, _⟩ => ⟨S4x6144x128, .f32⟩
  | .local _ .vmem, ⟨19, _⟩ => ⟨S640x512, .f32⟩
  | .local _ .smem, ⟨0, _⟩ => ⟨S2x24, .f32⟩
  | _, _ => ⟨S2x6144x24x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![2, 6, 12], ![false, false, false]⟩

def k0_off1 (i : grid0.Coords) (c0_i32_1 : BitVec 32) : Fin 2 → Nat :=
  let arg0 : BitVec 32 := BitVec.ofNat 32 (i 0).val
  let v5 : Index := Scalar.indexCast arg0
  let arg1 : BitVec 32 := BitVec.ofNat 32 (i 1).val
  let c4_i32 : BitVec 32 := 4#32
  let v3 : BitVec 32 := Scalar.muli arg1 c4_i32
  let v4 : BitVec 32 := Scalar.addi v3 c0_i32_1
  let v6 : Index := Scalar.indexCast v4
  ![v5.toNat, v6.toNat]
def k0_off2 (i : grid0.Coords) : Fin 2 → Nat :=
  let arg2 : BitVec 32 := BitVec.ofNat 32 (i 2).val
  let c512_i32 : BitVec 32 := 512#32
  let v16 : BitVec 32 := Scalar.muli arg2 c512_i32
  let v17 : Index := Scalar.indexCast v16
  let c0_12 : Index := 0#32
  ![v17.toNat, 0]
def k0_off3 (i : grid0.Coords) : Fin 3 → Nat :=
  let c0_15 : Index := 0#32
  let arg2 : BitVec 32 := BitVec.ofNat 32 (i 2).val
  let c512_i32_14 : BitVec 32 := 512#32
  let v20 : BitVec 32 := Scalar.muli arg2 c512_i32_14
  let v21 : Index := Scalar.indexCast v20
  let c0_16 : Index := 0#32
  ![0, v21.toNat, 0]
def k0_off4 (i : grid0.Coords) : Fin 2 → Nat :=
  let c0_23 : Index := 0#32
  let arg2 : BitVec 32 := BitVec.ofNat 32 (i 2).val
  let c512_i32_22 : BitVec 32 := 512#32
  let v55 : BitVec 32 := Scalar.muli arg2 c512_i32_22
  let v56 : Index := Scalar.indexCast v55
  ![0, v56.toNat]
@[reducible] def k0_t1_loop (i : grid0.Coords) : Scf.Loop 32 :=
  let c0_i32_25 : BitVec 32 := 0#32
  let arg2 : BitVec 32 := BitVec.ofNat 32 (i 2).val
  let v61 : BitVec 32 := Scalar.subi arg2 c0_i32_25
  let c1_i32 : BitVec 32 := 1#32
  let v63 : BitVec 32 := Scalar.divsi v61 c1_i32
  let v64 : BitVec 32 := Scalar.muli v63 c1_i32
  let v65 : BitVec 32 := Scalar.addi c0_i32_25 v64
  let c1_i32_26 : BitVec 32 := 1#32
  ⟨c0_i32_25, v65, c1_i32_26⟩
def k0_off5 (i : grid0.Coords) (k0_t1 : Fin (k0_t1_loop i).trips) : Fin 2 → Nat :=
  let c0_i32_25 : BitVec 32 := 0#32
  let c1_i32_26 : BitVec 32 := 1#32
  let arg16 : BitVec 32 := Scf.iv c0_i32_25 c1_i32_26 k0_t1
  let c512_i32_173 : BitVec 32 := 512#32
  let v349 : BitVec 32 := Scalar.muli arg16 c512_i32_173
  let v350 : Index := Scalar.indexCast v349
  let c0_174 : Index := 0#32
  ![v350.toNat, 0]
def k0_off6 (i : grid0.Coords) (k0_t1 : Fin (k0_t1_loop i).trips) : Fin 3 → Nat :=
  let c0_177 : Index := 0#32
  let c0_i32_25 : BitVec 32 := 0#32
  let c1_i32_26 : BitVec 32 := 1#32
  let arg16 : BitVec 32 := Scf.iv c0_i32_25 c1_i32_26 k0_t1
  let c512_i32_176 : BitVec 32 := 512#32
  let v353 : BitVec 32 := Scalar.muli arg16 c512_i32_176
  let v354 : Index := Scalar.indexCast v353
  let c0_178 : Index := 0#32
  ![0, v354.toNat, 0]
def k0_off7 (i : grid0.Coords) (k0_t1 : Fin (k0_t1_loop i).trips) : Fin 2 → Nat :=
  let c0_182 : Index := 0#32
  let c0_i32_25 : BitVec 32 := 0#32
  let c1_i32_26 : BitVec 32 := 1#32
  let arg16 : BitVec 32 := Scf.iv c0_i32_25 c1_i32_26 k0_t1
  let c512_i32_181 : BitVec 32 := 512#32
  let v377 : BitVec 32 := Scalar.muli arg16 c512_i32_181
  let v378 : Index := Scalar.indexCast v377
  ![0, v378.toNat]
@[reducible] def k0_t2_loop (i : grid0.Coords) : Scf.Loop 32 :=
  let c0_i32_25 : BitVec 32 := 0#32
  let arg2 : BitVec 32 := BitVec.ofNat 32 (i 2).val
  let v61 : BitVec 32 := Scalar.subi arg2 c0_i32_25
  let c1_i32 : BitVec 32 := 1#32
  let v63 : BitVec 32 := Scalar.divsi v61 c1_i32
  let v64 : BitVec 32 := Scalar.muli v63 c1_i32
  let v65 : BitVec 32 := Scalar.addi c0_i32_25 v64
  let v62 : BitVec 32 := Scalar.addi c0_i32_25 v61
  let c1_i32_27 : BitVec 32 := 1#32
  ⟨v65, v62, c1_i32_27⟩
def k0_off8 (i : grid0.Coords) (k0_t2 : Fin (k0_t2_loop i).trips) : Fin 2 → Nat :=
  let c0_i32_25 : BitVec 32 := 0#32
  let arg2 : BitVec 32 := BitVec.ofNat 32 (i 2).val
  let v61 : BitVec 32 := Scalar.subi arg2 c0_i32_25
  let c1_i32 : BitVec 32 := 1#32
  let v63 : BitVec 32 := Scalar.divsi v61 c1_i32
  let v64 : BitVec 32 := Scalar.muli v63 c1_i32
  let v65 : BitVec 32 := Scalar.addi c0_i32_25 v64
  let c1_i32_27 : BitVec 32 := 1#32
  let arg16 : BitVec 32 := Scf.iv v65 c1_i32_27 k0_t2
  let c512_i32_173 : BitVec 32 := 512#32
  let v349 : BitVec 32 := Scalar.muli arg16 c512_i32_173
  let v350 : Index := Scalar.indexCast v349
  let c0_174 : Index := 0#32
  ![v350.toNat, 0]
def k0_off9 (i : grid0.Coords) (k0_t2 : Fin (k0_t2_loop i).trips) : Fin 3 → Nat :=
  let c0_177 : Index := 0#32
  let c0_i32_25 : BitVec 32 := 0#32
  let arg2 : BitVec 32 := BitVec.ofNat 32 (i 2).val
  let v61 : BitVec 32 := Scalar.subi arg2 c0_i32_25
  let c1_i32 : BitVec 32 := 1#32
  let v63 : BitVec 32 := Scalar.divsi v61 c1_i32
  let v64 : BitVec 32 := Scalar.muli v63 c1_i32
  let v65 : BitVec 32 := Scalar.addi c0_i32_25 v64
  let c1_i32_27 : BitVec 32 := 1#32
  let arg16 : BitVec 32 := Scf.iv v65 c1_i32_27 k0_t2
  let c512_i32_176 : BitVec 32 := 512#32
  let v353 : BitVec 32 := Scalar.muli arg16 c512_i32_176
  let v354 : Index := Scalar.indexCast v353
  let c0_178 : Index := 0#32
  ![0, v354.toNat, 0]
def k0_off10 (i : grid0.Coords) (k0_t2 : Fin (k0_t2_loop i).trips) : Fin 2 → Nat :=
  let c0_182 : Index := 0#32
  let c0_i32_25 : BitVec 32 := 0#32
  let arg2 : BitVec 32 := BitVec.ofNat 32 (i 2).val
  let v61 : BitVec 32 := Scalar.subi arg2 c0_i32_25
  let c1_i32 : BitVec 32 := 1#32
  let v63 : BitVec 32 := Scalar.divsi v61 c1_i32
  let v64 : BitVec 32 := Scalar.muli v63 c1_i32
  let v65 : BitVec 32 := Scalar.addi c0_i32_25 v64
  let c1_i32_27 : BitVec 32 := 1#32
  let arg16 : BitVec 32 := Scf.iv v65 c1_i32_27 k0_t2
  let c512_i32_181 : BitVec 32 := 512#32
  let v377 : BitVec 32 := Scalar.muli arg16 c512_i32_181
  let v378 : Index := Scalar.indexCast v377
  ![0, v378.toNat]
def k0_off11 (i : grid0.Coords) : Fin 3 → Nat :=
  let c1_58 : Index := 1#32
  let arg2 : BitVec 32 := BitVec.ofNat 32 (i 2).val
  let c512_i32_57 : BitVec 32 := 512#32
  let v105 : BitVec 32 := Scalar.muli arg2 c512_i32_57
  let v106 : Index := Scalar.indexCast v105
  let c0_59 : Index := 0#32
  ![1, v106.toNat, 0]
@[reducible] def k0_t3_loop (i : grid0.Coords) : Scf.Loop 32 :=
  let c0_i32_68 : BitVec 32 := 0#32
  let arg2 : BitVec 32 := BitVec.ofNat 32 (i 2).val
  let v146 : BitVec 32 := Scalar.subi arg2 c0_i32_68
  let c1_i32_69 : BitVec 32 := 1#32
  let v148 : BitVec 32 := Scalar.divsi v146 c1_i32_69
  let v149 : BitVec 32 := Scalar.muli v148 c1_i32_69
  let v150 : BitVec 32 := Scalar.addi c0_i32_68 v149
  let c1_i32_70 : BitVec 32 := 1#32
  ⟨c0_i32_68, v150, c1_i32_70⟩
def k0_off12 (i : grid0.Coords) (k0_t3 : Fin (k0_t3_loop i).trips) : Fin 2 → Nat :=
  let c0_i32_68 : BitVec 32 := 0#32
  let c1_i32_70 : BitVec 32 := 1#32
  let arg16 : BitVec 32 := Scf.iv c0_i32_68 c1_i32_70 k0_t3
  let c512_i32_173 : BitVec 32 := 512#32
  let v349 : BitVec 32 := Scalar.muli arg16 c512_i32_173
  let v350 : Index := Scalar.indexCast v349
  let c0_174 : Index := 0#32
  ![v350.toNat, 0]
def k0_off13 (i : grid0.Coords) (k0_t3 : Fin (k0_t3_loop i).trips) : Fin 3 → Nat :=
  let c1_177 : Index := 1#32
  let c0_i32_68 : BitVec 32 := 0#32
  let c1_i32_70 : BitVec 32 := 1#32
  let arg16 : BitVec 32 := Scf.iv c0_i32_68 c1_i32_70 k0_t3
  let c512_i32_176 : BitVec 32 := 512#32
  let v353 : BitVec 32 := Scalar.muli arg16 c512_i32_176
  let v354 : Index := Scalar.indexCast v353
  let c0_178 : Index := 0#32
  ![1, v354.toNat, 0]
def k0_off14 (i : grid0.Coords) (k0_t3 : Fin (k0_t3_loop i).trips) : Fin 2 → Nat :=
  let c0_182 : Index := 0#32
  let c0_i32_68 : BitVec 32 := 0#32
  let c1_i32_70 : BitVec 32 := 1#32
  let arg16 : BitVec 32 := Scf.iv c0_i32_68 c1_i32_70 k0_t3
  let c512_i32_181 : BitVec 32 := 512#32
  let v377 : BitVec 32 := Scalar.muli arg16 c512_i32_181
  let v378 : Index := Scalar.indexCast v377
  ![0, v378.toNat]
@[reducible] def k0_t4_loop (i : grid0.Coords) : Scf.Loop 32 :=
  let c0_i32_68 : BitVec 32 := 0#32
  let arg2 : BitVec 32 := BitVec.ofNat 32 (i 2).val
  let v146 : BitVec 32 := Scalar.subi arg2 c0_i32_68
  let c1_i32_69 : BitVec 32 := 1#32
  let v148 : BitVec 32 := Scalar.divsi v146 c1_i32_69
  let v149 : BitVec 32 := Scalar.muli v148 c1_i32_69
  let v150 : BitVec 32 := Scalar.addi c0_i32_68 v149
  let v147 : BitVec 32 := Scalar.addi c0_i32_68 v146
  let c1_i32_71 : BitVec 32 := 1#32
  ⟨v150, v147, c1_i32_71⟩
def k0_off15 (i : grid0.Coords) (k0_t4 : Fin (k0_t4_loop i).trips) : Fin 2 → Nat :=
  let c0_i32_68 : BitVec 32 := 0#32
  let arg2 : BitVec 32 := BitVec.ofNat 32 (i 2).val
  let v146 : BitVec 32 := Scalar.subi arg2 c0_i32_68
  let c1_i32_69 : BitVec 32 := 1#32
  let v148 : BitVec 32 := Scalar.divsi v146 c1_i32_69
  let v149 : BitVec 32 := Scalar.muli v148 c1_i32_69
  let v150 : BitVec 32 := Scalar.addi c0_i32_68 v149
  let c1_i32_71 : BitVec 32 := 1#32
  let arg16 : BitVec 32 := Scf.iv v150 c1_i32_71 k0_t4
  let c512_i32_173 : BitVec 32 := 512#32
  let v349 : BitVec 32 := Scalar.muli arg16 c512_i32_173
  let v350 : Index := Scalar.indexCast v349
  let c0_174 : Index := 0#32
  ![v350.toNat, 0]
def k0_off16 (i : grid0.Coords) (k0_t4 : Fin (k0_t4_loop i).trips) : Fin 3 → Nat :=
  let c1_177 : Index := 1#32
  let c0_i32_68 : BitVec 32 := 0#32
  let arg2 : BitVec 32 := BitVec.ofNat 32 (i 2).val
  let v146 : BitVec 32 := Scalar.subi arg2 c0_i32_68
  let c1_i32_69 : BitVec 32 := 1#32
  let v148 : BitVec 32 := Scalar.divsi v146 c1_i32_69
  let v149 : BitVec 32 := Scalar.muli v148 c1_i32_69
  let v150 : BitVec 32 := Scalar.addi c0_i32_68 v149
  let c1_i32_71 : BitVec 32 := 1#32
  let arg16 : BitVec 32 := Scf.iv v150 c1_i32_71 k0_t4
  let c512_i32_176 : BitVec 32 := 512#32
  let v353 : BitVec 32 := Scalar.muli arg16 c512_i32_176
  let v354 : Index := Scalar.indexCast v353
  let c0_178 : Index := 0#32
  ![1, v354.toNat, 0]
def k0_off17 (i : grid0.Coords) (k0_t4 : Fin (k0_t4_loop i).trips) : Fin 2 → Nat :=
  let c0_182 : Index := 0#32
  let c0_i32_68 : BitVec 32 := 0#32
  let arg2 : BitVec 32 := BitVec.ofNat 32 (i 2).val
  let v146 : BitVec 32 := Scalar.subi arg2 c0_i32_68
  let c1_i32_69 : BitVec 32 := 1#32
  let v148 : BitVec 32 := Scalar.divsi v146 c1_i32_69
  let v149 : BitVec 32 := Scalar.muli v148 c1_i32_69
  let v150 : BitVec 32 := Scalar.addi c0_i32_68 v149
  let c1_i32_71 : BitVec 32 := 1#32
  let arg16 : BitVec 32 := Scf.iv v150 c1_i32_71 k0_t4
  let c512_i32_181 : BitVec 32 := 512#32
  let v377 : BitVec 32 := Scalar.muli arg16 c512_i32_181
  let v378 : Index := Scalar.indexCast v377
  ![0, v378.toNat]
def k0_off18 (i : grid0.Coords) : Fin 3 → Nat :=
  let c2_100 : Index := 2#32
  let arg2 : BitVec 32 := BitVec.ofNat 32 (i 2).val
  let c512_i32_99 : BitVec 32 := 512#32
  let v190 : BitVec 32 := Scalar.muli arg2 c512_i32_99
  let v191 : Index := Scalar.indexCast v190
  let c0_101 : Index := 0#32
  ![2, v191.toNat, 0]
@[reducible] def k0_t5_loop (i : grid0.Coords) : Scf.Loop 32 :=
  let c0_i32_110 : BitVec 32 := 0#32
  let arg2 : BitVec 32 := BitVec.ofNat 32 (i 2).val
  let v231 : BitVec 32 := Scalar.subi arg2 c0_i32_110
  let c1_i32_111 : BitVec 32 := 1#32
  let v233 : BitVec 32 := Scalar.divsi v231 c1_i32_111
  let v234 : BitVec 32 := Scalar.muli v233 c1_i32_111
  let v235 : BitVec 32 := Scalar.addi c0_i32_110 v234
  let c1_i32_112 : BitVec 32 := 1#32
  ⟨c0_i32_110, v235, c1_i32_112⟩
def k0_off19 (i : grid0.Coords) (k0_t5 : Fin (k0_t5_loop i).trips) : Fin 2 → Nat :=
  let c0_i32_110 : BitVec 32 := 0#32
  let c1_i32_112 : BitVec 32 := 1#32
  let arg16 : BitVec 32 := Scf.iv c0_i32_110 c1_i32_112 k0_t5
  let c512_i32_173 : BitVec 32 := 512#32
  let v349 : BitVec 32 := Scalar.muli arg16 c512_i32_173
  let v350 : Index := Scalar.indexCast v349
  let c0_174 : Index := 0#32
  ![v350.toNat, 0]
def k0_off20 (i : grid0.Coords) (k0_t5 : Fin (k0_t5_loop i).trips) : Fin 3 → Nat :=
  let c2_177 : Index := 2#32
  let c0_i32_110 : BitVec 32 := 0#32
  let c1_i32_112 : BitVec 32 := 1#32
  let arg16 : BitVec 32 := Scf.iv c0_i32_110 c1_i32_112 k0_t5
  let c512_i32_176 : BitVec 32 := 512#32
  let v353 : BitVec 32 := Scalar.muli arg16 c512_i32_176
  let v354 : Index := Scalar.indexCast v353
  let c0_178 : Index := 0#32
  ![2, v354.toNat, 0]
def k0_off21 (i : grid0.Coords) (k0_t5 : Fin (k0_t5_loop i).trips) : Fin 2 → Nat :=
  let c0_182 : Index := 0#32
  let c0_i32_110 : BitVec 32 := 0#32
  let c1_i32_112 : BitVec 32 := 1#32
  let arg16 : BitVec 32 := Scf.iv c0_i32_110 c1_i32_112 k0_t5
  let c512_i32_181 : BitVec 32 := 512#32
  let v377 : BitVec 32 := Scalar.muli arg16 c512_i32_181
  let v378 : Index := Scalar.indexCast v377
  ![0, v378.toNat]
@[reducible] def k0_t6_loop (i : grid0.Coords) : Scf.Loop 32 :=
  let c0_i32_110 : BitVec 32 := 0#32
  let arg2 : BitVec 32 := BitVec.ofNat 32 (i 2).val
  let v231 : BitVec 32 := Scalar.subi arg2 c0_i32_110
  let c1_i32_111 : BitVec 32 := 1#32
  let v233 : BitVec 32 := Scalar.divsi v231 c1_i32_111
  let v234 : BitVec 32 := Scalar.muli v233 c1_i32_111
  let v235 : BitVec 32 := Scalar.addi c0_i32_110 v234
  let v232 : BitVec 32 := Scalar.addi c0_i32_110 v231
  let c1_i32_113 : BitVec 32 := 1#32
  ⟨v235, v232, c1_i32_113⟩
def k0_off22 (i : grid0.Coords) (k0_t6 : Fin (k0_t6_loop i).trips) : Fin 2 → Nat :=
  let c0_i32_110 : BitVec 32 := 0#32
  let arg2 : BitVec 32 := BitVec.ofNat 32 (i 2).val
  let v231 : BitVec 32 := Scalar.subi arg2 c0_i32_110
  let c1_i32_111 : BitVec 32 := 1#32
  let v233 : BitVec 32 := Scalar.divsi v231 c1_i32_111
  let v234 : BitVec 32 := Scalar.muli v233 c1_i32_111
  let v235 : BitVec 32 := Scalar.addi c0_i32_110 v234
  let c1_i32_113 : BitVec 32 := 1#32
  let arg16 : BitVec 32 := Scf.iv v235 c1_i32_113 k0_t6
  let c512_i32_173 : BitVec 32 := 512#32
  let v349 : BitVec 32 := Scalar.muli arg16 c512_i32_173
  let v350 : Index := Scalar.indexCast v349
  let c0_174 : Index := 0#32
  ![v350.toNat, 0]
def k0_off23 (i : grid0.Coords) (k0_t6 : Fin (k0_t6_loop i).trips) : Fin 3 → Nat :=
  let c2_177 : Index := 2#32
  let c0_i32_110 : BitVec 32 := 0#32
  let arg2 : BitVec 32 := BitVec.ofNat 32 (i 2).val
  let v231 : BitVec 32 := Scalar.subi arg2 c0_i32_110
  let c1_i32_111 : BitVec 32 := 1#32
  let v233 : BitVec 32 := Scalar.divsi v231 c1_i32_111
  let v234 : BitVec 32 := Scalar.muli v233 c1_i32_111
  let v235 : BitVec 32 := Scalar.addi c0_i32_110 v234
  let c1_i32_113 : BitVec 32 := 1#32
  let arg16 : BitVec 32 := Scf.iv v235 c1_i32_113 k0_t6
  let c512_i32_176 : BitVec 32 := 512#32
  let v353 : BitVec 32 := Scalar.muli arg16 c512_i32_176
  let v354 : Index := Scalar.indexCast v353
  let c0_178 : Index := 0#32
  ![2, v354.toNat, 0]
def k0_off24 (i : grid0.Coords) (k0_t6 : Fin (k0_t6_loop i).trips) : Fin 2 → Nat :=
  let c0_182 : Index := 0#32
  let c0_i32_110 : BitVec 32 := 0#32
  let arg2 : BitVec 32 := BitVec.ofNat 32 (i 2).val
  let v231 : BitVec 32 := Scalar.subi arg2 c0_i32_110
  let c1_i32_111 : BitVec 32 := 1#32
  let v233 : BitVec 32 := Scalar.divsi v231 c1_i32_111
  let v234 : BitVec 32 := Scalar.muli v233 c1_i32_111
  let v235 : BitVec 32 := Scalar.addi c0_i32_110 v234
  let c1_i32_113 : BitVec 32 := 1#32
  let arg16 : BitVec 32 := Scf.iv v235 c1_i32_113 k0_t6
  let c512_i32_181 : BitVec 32 := 512#32
  let v377 : BitVec 32 := Scalar.muli arg16 c512_i32_181
  let v378 : Index := Scalar.indexCast v377
  ![0, v378.toNat]
def k0_off25 (i : grid0.Coords) : Fin 3 → Nat :=
  let c3_142 : Index := 3#32
  let arg2 : BitVec 32 := BitVec.ofNat 32 (i 2).val
  let c512_i32_141 : BitVec 32 := 512#32
  let v275 : BitVec 32 := Scalar.muli arg2 c512_i32_141
  let v276 : Index := Scalar.indexCast v275
  let c0_143 : Index := 0#32
  ![3, v276.toNat, 0]
@[reducible] def k0_t7_loop (i : grid0.Coords) : Scf.Loop 32 :=
  let c0_i32_152 : BitVec 32 := 0#32
  let arg2 : BitVec 32 := BitVec.ofNat 32 (i 2).val
  let v316 : BitVec 32 := Scalar.subi arg2 c0_i32_152
  let c1_i32_153 : BitVec 32 := 1#32
  let v318 : BitVec 32 := Scalar.divsi v316 c1_i32_153
  let v319 : BitVec 32 := Scalar.muli v318 c1_i32_153
  let v320 : BitVec 32 := Scalar.addi c0_i32_152 v319
  let c1_i32_154 : BitVec 32 := 1#32
  ⟨c0_i32_152, v320, c1_i32_154⟩
def k0_off26 (i : grid0.Coords) (k0_t7 : Fin (k0_t7_loop i).trips) : Fin 2 → Nat :=
  let c0_i32_152 : BitVec 32 := 0#32
  let c1_i32_154 : BitVec 32 := 1#32
  let arg16 : BitVec 32 := Scf.iv c0_i32_152 c1_i32_154 k0_t7
  let c512_i32_173 : BitVec 32 := 512#32
  let v349 : BitVec 32 := Scalar.muli arg16 c512_i32_173
  let v350 : Index := Scalar.indexCast v349
  let c0_174 : Index := 0#32
  ![v350.toNat, 0]
def k0_off27 (i : grid0.Coords) (k0_t7 : Fin (k0_t7_loop i).trips) : Fin 3 → Nat :=
  let c3_177 : Index := 3#32
  let c0_i32_152 : BitVec 32 := 0#32
  let c1_i32_154 : BitVec 32 := 1#32
  let arg16 : BitVec 32 := Scf.iv c0_i32_152 c1_i32_154 k0_t7
  let c512_i32_176 : BitVec 32 := 512#32
  let v353 : BitVec 32 := Scalar.muli arg16 c512_i32_176
  let v354 : Index := Scalar.indexCast v353
  let c0_178 : Index := 0#32
  ![3, v354.toNat, 0]
def k0_off28 (i : grid0.Coords) (k0_t7 : Fin (k0_t7_loop i).trips) : Fin 2 → Nat :=
  let c0_182 : Index := 0#32
  let c0_i32_152 : BitVec 32 := 0#32
  let c1_i32_154 : BitVec 32 := 1#32
  let arg16 : BitVec 32 := Scf.iv c0_i32_152 c1_i32_154 k0_t7
  let c512_i32_181 : BitVec 32 := 512#32
  let v377 : BitVec 32 := Scalar.muli arg16 c512_i32_181
  let v378 : Index := Scalar.indexCast v377
  ![0, v378.toNat]
@[reducible] def k0_t8_loop (i : grid0.Coords) : Scf.Loop 32 :=
  let c0_i32_152 : BitVec 32 := 0#32
  let arg2 : BitVec 32 := BitVec.ofNat 32 (i 2).val
  let v316 : BitVec 32 := Scalar.subi arg2 c0_i32_152
  let c1_i32_153 : BitVec 32 := 1#32
  let v318 : BitVec 32 := Scalar.divsi v316 c1_i32_153
  let v319 : BitVec 32 := Scalar.muli v318 c1_i32_153
  let v320 : BitVec 32 := Scalar.addi c0_i32_152 v319
  let v317 : BitVec 32 := Scalar.addi c0_i32_152 v316
  let c1_i32_155 : BitVec 32 := 1#32
  ⟨v320, v317, c1_i32_155⟩
def k0_off29 (i : grid0.Coords) (k0_t8 : Fin (k0_t8_loop i).trips) : Fin 2 → Nat :=
  let c0_i32_152 : BitVec 32 := 0#32
  let arg2 : BitVec 32 := BitVec.ofNat 32 (i 2).val
  let v316 : BitVec 32 := Scalar.subi arg2 c0_i32_152
  let c1_i32_153 : BitVec 32 := 1#32
  let v318 : BitVec 32 := Scalar.divsi v316 c1_i32_153
  let v319 : BitVec 32 := Scalar.muli v318 c1_i32_153
  let v320 : BitVec 32 := Scalar.addi c0_i32_152 v319
  let c1_i32_155 : BitVec 32 := 1#32
  let arg16 : BitVec 32 := Scf.iv v320 c1_i32_155 k0_t8
  let c512_i32_173 : BitVec 32 := 512#32
  let v349 : BitVec 32 := Scalar.muli arg16 c512_i32_173
  let v350 : Index := Scalar.indexCast v349
  let c0_174 : Index := 0#32
  ![v350.toNat, 0]
def k0_off30 (i : grid0.Coords) (k0_t8 : Fin (k0_t8_loop i).trips) : Fin 3 → Nat :=
  let c3_177 : Index := 3#32
  let c0_i32_152 : BitVec 32 := 0#32
  let arg2 : BitVec 32 := BitVec.ofNat 32 (i 2).val
  let v316 : BitVec 32 := Scalar.subi arg2 c0_i32_152
  let c1_i32_153 : BitVec 32 := 1#32
  let v318 : BitVec 32 := Scalar.divsi v316 c1_i32_153
  let v319 : BitVec 32 := Scalar.muli v318 c1_i32_153
  let v320 : BitVec 32 := Scalar.addi c0_i32_152 v319
  let c1_i32_155 : BitVec 32 := 1#32
  let arg16 : BitVec 32 := Scf.iv v320 c1_i32_155 k0_t8
  let c512_i32_176 : BitVec 32 := 512#32
  let v353 : BitVec 32 := Scalar.muli arg16 c512_i32_176
  let v354 : Index := Scalar.indexCast v353
  let c0_178 : Index := 0#32
  ![3, v354.toNat, 0]
def k0_off31 (i : grid0.Coords) (k0_t8 : Fin (k0_t8_loop i).trips) : Fin 2 → Nat :=
  let c0_182 : Index := 0#32
  let c0_i32_152 : BitVec 32 := 0#32
  let arg2 : BitVec 32 := BitVec.ofNat 32 (i 2).val
  let v316 : BitVec 32 := Scalar.subi arg2 c0_i32_152
  let c1_i32_153 : BitVec 32 := 1#32
  let v318 : BitVec 32 := Scalar.divsi v316 c1_i32_153
  let v319 : BitVec 32 := Scalar.muli v318 c1_i32_153
  let v320 : BitVec 32 := Scalar.addi c0_i32_152 v319
  let c1_i32_155 : BitVec 32 := 1#32
  let arg16 : BitVec 32 := Scf.iv v320 c1_i32_155 k0_t8
  let c512_i32_181 : BitVec 32 := 512#32
  let v377 : BitVec 32 := Scalar.muli arg16 c512_i32_181
  let v378 : Index := Scalar.indexCast v377
  ![0, v378.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 1 → Memref sig .tc .smem S2x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x4x160x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x160x6144 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x160x6144 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x160x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x6144x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x512x640 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x4x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "scale_log2e" => some (((Real.sqrt 160)⁻¹ * (Real.log 2)⁻¹ : ℝ) : EReal)
  | _ => none
-- ==== ReferenceIdeal.lean ====
abbrev S2x6144x24x160 : Shape := ⟨4, ![2, 6144, 24, 160]⟩
abbrev S2x24 : Shape := ⟨2, ![2, 24]⟩
abbrev S2x6144x6x160 : Shape := ⟨4, ![2, 6144, 6, 160]⟩
abbrev S2x6 : Shape := ⟨2, ![2, 6]⟩
abbrev S2x6x160 : Shape := ⟨3, ![2, 6, 160]⟩
abbrev S2x6x4x6144 : Shape := ⟨4, ![2, 6, 4, 6144]⟩
abbrev S2x6x6144x4 : Shape := ⟨4, ![2, 6, 6144, 4]⟩
abbrev S_ : Shape := ⟨0, ![]⟩
abbrev S2x6x4 : Shape := ⟨3, ![2, 6, 4]⟩
abbrev S2x6x1 : Shape := ⟨3, ![2, 6, 1]⟩
abbrev S2x6144x6x4x160 : Shape := ⟨5, ![2, 6144, 6, 4, 160]⟩
abbrev S2x6x4x6144x160 : Shape := ⟨5, ![2, 6, 4, 6144, 160]⟩
abbrev S2x6x6144x160 : Shape := ⟨4, ![2, 6, 6144, 160]⟩
abbrev S2x6x1x1x160 : Shape := ⟨5, ![2, 6, 1, 1, 160]⟩
abbrev S2x6x4x6144x6144 : Shape := ⟨5, ![2, 6, 4, 6144, 6144]⟩
abbrev S2x6x4x1x1 : Shape := ⟨5, ![2, 6, 4, 1, 1]⟩
abbrev S2x6x4x6144x1 : Shape := ⟨5, ![2, 6, 4, 6144, 1]⟩
abbrev S2x6x4x1x6144 : Shape := ⟨5, ![2, 6, 4, 1, 6144]⟩
abbrev S6144 : Shape := ⟨1, ![6144]⟩
abbrev S1x6144 : Shape := ⟨2, ![1, 6144]⟩
abbrev S6144x1 : Shape := ⟨2, ![6144, 1]⟩
abbrev S6144x6144 : Shape := ⟨2, ![6144, 6144]⟩
abbrev S2x6144x3840 : Shape := ⟨3, ![2, 6144, 3840]⟩

abbrev nBuf : Space → Nat
  | .hbm => 76
  | .vmem => 6
  | .smem => 0
  | _ => 0

abbrev bufTy : (tb : Table) → Fin (tcTables nBuf tb) → BufTy
  | .hbm, ⟨0, _⟩ => ⟨S2x6144x24x160, .fp8e4m3⟩
  | .hbm, ⟨1, _⟩ => ⟨S2x24, .f32⟩
  | .hbm, ⟨2, _⟩ => ⟨S2x6144x6x160, .fp8e4m3⟩
  | .hbm, ⟨3, _⟩ => ⟨S2x6, .f32⟩
  | .hbm, ⟨4, _⟩ => ⟨S2x6144x6x160, .fp8e4m3⟩
  | .hbm, ⟨5, _⟩ => ⟨S2x6x160, .f32⟩
  | .hbm, ⟨6, _⟩ => ⟨S2x6x4x6144, .f32⟩
  | .hbm, ⟨7, _⟩ => ⟨S2x6x6144x4, .f32⟩
  | .hbm, ⟨8, _⟩ => ⟨S2x6144x24x160, .bf16⟩
  | .hbm, ⟨9, _⟩ => ⟨S2x6144x6x160, .bf16⟩
  | .hbm, ⟨10, _⟩ => ⟨S2x6144x6x160, .bf16⟩
  | .hbm, ⟨11, _⟩ => ⟨S_, .f32⟩
  | .hbm, ⟨12, _⟩ => ⟨S_, .f32⟩
  | .hbm, ⟨13, _⟩ => ⟨S2x6x4x6144, .f32⟩
  | .hbm, ⟨14, _⟩ => ⟨S2x6x4x6144, .f32⟩
  | .hbm, ⟨15, _⟩ => ⟨S2x6x6144x4, .f32⟩
  | .hbm, ⟨16, _⟩ => ⟨S2x6x6144x4, .f32⟩
  | .hbm, ⟨17, _⟩ => ⟨S2x6x4, .f32⟩
  | .hbm, ⟨18, _⟩ => ⟨S2x6x1, .f32⟩
  | .hbm, ⟨19, _⟩ => ⟨S2x6x4, .f32⟩
  | .hbm, ⟨20, _⟩ => ⟨S2x6x4, .f32⟩
  | .hbm, ⟨21, _⟩ => ⟨S_, .f32⟩
  | .hbm, ⟨22, _⟩ => ⟨S_, .f32⟩
  | .hbm, ⟨23, _⟩ => ⟨S2x6x4, .f32⟩
  | .hbm, ⟨24, _⟩ => ⟨S2x6x4, .f32⟩
  | .hbm, ⟨25, _⟩ => ⟨S2x6144x6x4x160, .bf16⟩
  | .hbm, ⟨26, _⟩ => ⟨S2x6x4x6144x160, .bf16⟩
  | .hbm, ⟨27, _⟩ => ⟨S2x6x6144x160, .bf16⟩
  | .hbm, ⟨28, _⟩ => ⟨S2x6x6144x160, .bf16⟩
  | .hbm, ⟨29, _⟩ => ⟨S2x6x1x1x160, .f32⟩
  | .hbm, ⟨30, _⟩ => ⟨S2x6x4x6144x6144, .f32⟩
  | .hbm, ⟨31, _⟩ => ⟨S2x6x4x1x1, .f32⟩
  | .hbm, ⟨32, _⟩ => ⟨S2x6x4x6144x6144, .f32⟩
  | .hbm, ⟨33, _⟩ => ⟨S2x6x4x6144x6144, .f32⟩
  | .hbm, ⟨34, _⟩ => ⟨S2x6x4x6144x1, .f32⟩
  | .hbm, ⟨35, _⟩ => ⟨S2x6x4x6144x6144, .f32⟩
  | .hbm, ⟨36, _⟩ => ⟨S2x6x4x6144x6144, .f32⟩
  | .hbm, ⟨37, _⟩ => ⟨S2x6x4x6144, .f32⟩
  | .hbm, ⟨38, _⟩ => ⟨S2x6x4x1x6144, .f32⟩
  | .hbm, ⟨39, _⟩ => ⟨S2x6x4x6144x6144, .f32⟩
  | .hbm, ⟨40, _⟩ => ⟨S2x6x4x6144x6144, .f32⟩
  | .hbm, ⟨41, _⟩ => ⟨S6144, .i32⟩
  | .hbm, ⟨42, _⟩ => ⟨S1x6144, .i32⟩
  | .hbm, ⟨43, _⟩ => ⟨S6144x1, .i32⟩
  | .hbm, ⟨44, _⟩ => ⟨S6144x6144, .i32⟩
  | .hbm, ⟨45, _⟩ => ⟨S6144x6144, .i32⟩
  | .hbm, ⟨46, _⟩ => ⟨S6144x6144, .i1⟩
  | .hbm, ⟨47, _⟩ => ⟨S_, .f32⟩
  | .hbm, ⟨48, _⟩ => ⟨S_, .f32⟩
  | .hbm, ⟨49, _⟩ => ⟨S2x6x4x6144x6144, .i1⟩
  | .hbm, ⟨50, _⟩ => ⟨S2x6x4x6144x6144, .f32⟩
  | .hbm, ⟨51, _⟩ => ⟨S2x6x4x6144x6144, .f32⟩
  | .hbm, ⟨52, _⟩ => ⟨S_, .f32⟩
  | .hbm, ⟨53, _⟩ => ⟨S2x6x4x6144, .f32⟩
  | .hbm, ⟨54, _⟩ => ⟨S2x6x4x6144x1, .f32⟩
  | .hbm, ⟨55, _⟩ => ⟨S2x6x4x6144x6144, .f32⟩
  | .hbm, ⟨56, _⟩ => ⟨S2x6x4x6144x6144, .f32⟩
  | .hbm, ⟨57, _⟩ => ⟨S2x6x4x6144x6144, .f32⟩
  | .hbm, ⟨58, _⟩ => ⟨S_, .f32⟩
  | .hbm, ⟨59, _⟩ => ⟨S2x6x4x6144, .f32⟩
  | .hbm, ⟨60, _⟩ => ⟨S2x6x4x6144x1, .f32⟩
  | .hbm, ⟨61, _⟩ => ⟨S_, .f32⟩
  | .hbm, ⟨62, _⟩ => ⟨S2x6x4x6144x1, .f32⟩
  | .hbm, ⟨63, _⟩ => ⟨S2x6x4x6144x1, .f32⟩
  | .hbm, ⟨64, _⟩ => ⟨S2x6x4x6144x6144, .f32⟩
  | .hbm, ⟨65, _⟩ => ⟨S2x6x4x6144x6144, .f32⟩
  | .hbm, ⟨66, _⟩ => ⟨S2x6x4x6144x6144, .bf16⟩
  | .hbm, ⟨67, _⟩ => ⟨S2x6x4x6144x1, .f32⟩
  | .hbm, ⟨68, _⟩ => ⟨S2x6x4x6144x1, .f32⟩
  | .hbm, ⟨69, _⟩ => ⟨S2x6x4x6144, .f32⟩
  | .hbm, ⟨70, _⟩ => ⟨S2x6x4x6144x160, .f32⟩
  | .hbm, ⟨71, _⟩ => ⟨S2x6x4x6144x160, .f32⟩
  | .hbm, ⟨72, _⟩ => ⟨S2x6x4x6144x160, .f32⟩
  | .hbm, ⟨73, _⟩ => ⟨S2x6x4x6144x160, .bf16⟩
  | .hbm, ⟨74, _⟩ => ⟨S2x6144x6x4x160, .bf16⟩
  | .hbm, ⟨75, _⟩ => ⟨S2x6144x3840, .bf16⟩
  | .local _ .vmem, ⟨0, _⟩ => ⟨S2x6144x24x160, .fp8e4m3⟩
  | .local _ .vmem, ⟨1, _⟩ => ⟨S2x6144x6x160, .fp8e4m3⟩
  | .local _ .vmem, ⟨2, _⟩ => ⟨S2x6144x6x160, .fp8e4m3⟩
  | .local _ .vmem, ⟨3, _⟩ => ⟨S2x6144x24x160, .bf16⟩
  | .local _ .vmem, ⟨4, _⟩ => ⟨S2x6144x6x160, .bf16⟩
  | .local _ .vmem, ⟨5, _⟩ => ⟨S2x6144x6x160, .bf16⟩
  | _, _ => ⟨S2x6144x24x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_1 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v35 : Ref sig .tc := ⟨.hbm, 51, rfl⟩
abbrev main_cst_2 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_3 : Ref sig .tc := ⟨.hbm, 58, rfl⟩
abbrev main_v41 : Ref sig .tc := ⟨.hbm, 59, rfl⟩
abbrev main_v42 : Ref sig .tc := ⟨.hbm, 60, rfl⟩
abbrev main_cst_4 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x6144x24x160 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x6144x6x160 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x6144x6x160 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x6144x24x160 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x6144x6x160 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x6144x6x160 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Gates.lean ====
abbrev S2x6144x24 : Shape := ⟨3, ![2, 6144, 24]⟩
abbrev S2x24x6144 : Shape := ⟨3, ![2, 24, 6144]⟩
abbrev S2x6x4x6144 : Shape := ⟨4, ![2, 6, 4, 6144]⟩
abbrev S2x6x6144x4 : Shape := ⟨4, ![2, 6, 6144, 4]⟩
abbrev S1x1x4x6144 : Shape := ⟨4, ![1, 1, 4, 6144]⟩
abbrev S1x1x6144x4 : Shape := ⟨4, ![1, 1, 6144, 4]⟩
abbrev S4x128 : Shape := ⟨2, ![4, 128]⟩
abbrev S4x1 : Shape := ⟨2, ![4, 1]⟩
abbrev S1x1x4x128 : Shape := ⟨4, ![1, 1, 4, 128]⟩
abbrev S128x4 : Shape := ⟨2, ![128, 4]⟩
abbrev S1x1x128x4 : Shape := ⟨4, ![1, 1, 128, 4]⟩

abbrev nBuf : Space → Nat
  | .hbm => 5
  | .vmem => 6
  | .smem => 0
  | _ => 0

abbrev bufTy : (tb : Table) → Fin (tcTables nBuf tb) → BufTy
  | .hbm, ⟨0, _⟩ => ⟨S2x6144x24, .f32⟩
  | .hbm, ⟨1, _⟩ => ⟨S2x24x6144, .f32⟩
  | .hbm, ⟨2, _⟩ => ⟨S2x6x4x6144, .f32⟩
  | .hbm, ⟨3, _⟩ => ⟨S2x6x4x6144, .f32⟩
  | .hbm, ⟨4, _⟩ => ⟨S2x6x6144x4, .f32⟩
  | .local _ .vmem, ⟨0, _⟩ => ⟨S1x1x4x6144, .f32⟩
  | .local _ .vmem, ⟨1, _⟩ => ⟨S1x1x4x6144, .f32⟩
  | .local _ .vmem, ⟨2, _⟩ => ⟨S1x1x4x6144, .f32⟩
  | .local _ .vmem, ⟨3, _⟩ => ⟨S1x1x4x6144, .f32⟩
  | .local _ .vmem, ⟨4, _⟩ => ⟨S1x1x6144x4, .f32⟩
  | .local _ .vmem, ⟨5, _⟩ => ⟨S1x1x6144x4, .f32⟩
  | _, _ => ⟨S2x6144x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 6], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x4x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6144x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesIdeal.lean ====
variable {F : FTy → Type} [FloatOps F] [Named F]
def κ : String → Option EReal := fun
  | "log2e" => some (((Real.log 2)⁻¹ : ℝ) : EReal)
  | _ => none
-- ==== GatesReferenceIdeal.lean ====
abbrev S2x6144x24 : Shape := ⟨3, ![2, 6144, 24]⟩
abbrev S_ : Shape := ⟨0, ![]⟩
abbrev S2x6144x6x4 : Shape := ⟨4, ![2, 6144, 6, 4]⟩
abbrev S2x6x4x6144 : Shape := ⟨4, ![2, 6, 4, 6144]⟩
abbrev S2x6x6144x4 : Shape := ⟨4, ![2, 6, 6144, 4]⟩

abbrev nBuf : Space → Nat
  | .hbm => 27
  | .vmem => 0
  | .smem => 0
  | _ => 0

abbrev bufTy : (tb : Table) → Fin (tcTables nBuf tb) → BufTy
  | .hbm, ⟨0, _⟩ => ⟨S2x6144x24, .f32⟩
  | .hbm, ⟨1, _⟩ => ⟨S2x6144x24, .f32⟩
  | .hbm, ⟨2, _⟩ => ⟨S_, .f32⟩
  | .hbm, ⟨3, _⟩ => ⟨S2x6144x24, .f32⟩
  | .hbm, ⟨4, _⟩ => ⟨S2x6144x24, .f32⟩
  | .hbm, ⟨5, _⟩ => ⟨S2x6144x24, .f32⟩
  | .hbm, ⟨6, _⟩ => ⟨S2x6144x24, .f32⟩
  | .hbm, ⟨7, _⟩ => ⟨S2x6144x24, .i1⟩
  | .hbm, ⟨8, _⟩ => ⟨S2x6144x24, .f32⟩
  | .hbm, ⟨9, _⟩ => ⟨S2x6144x24, .f32⟩
  | .hbm, ⟨10, _⟩ => ⟨S2x6144x24, .f32⟩
  | .hbm, ⟨11, _⟩ => ⟨S2x6144x24, .f32⟩
  | .hbm, ⟨12, _⟩ => ⟨S2x6144x24, .f32⟩
  | .hbm, ⟨13, _⟩ => ⟨S2x6144x24, .f32⟩
  | .hbm, ⟨14, _⟩ => ⟨S2x6144x24, .f32⟩
  | .hbm, ⟨15, _⟩ => ⟨S2x6144x24, .f32⟩
  | .hbm, ⟨16, _⟩ => ⟨S2x6144x24, .f32⟩
  | .hbm, ⟨17, _⟩ => ⟨S_, .f32⟩
  | .hbm, ⟨18, _⟩ => ⟨S_, .f32⟩
  | .hbm, ⟨19, _⟩ => ⟨S2x6144x24, .f32⟩
  | .hbm, ⟨20, _⟩ => ⟨S_, .f32⟩
  | .hbm, ⟨21, _⟩ => ⟨S_, .f32⟩
  | .hbm, ⟨22, _⟩ => ⟨S2x6144x24, .f32⟩
  | .hbm, ⟨23, _⟩ => ⟨S2x6144x24, .f32⟩
  | .hbm, ⟨24, _⟩ => ⟨S2x6144x6x4, .f32⟩
  | .hbm, ⟨25, _⟩ => ⟨S2x6x4x6144, .f32⟩
  | .hbm, ⟨26, _⟩ => ⟨S2x6x6144x4, .f32⟩
  | _, _ => ⟨S2x6144x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_call0_cst : Ref sig .tc := ⟨.hbm, 2, rfl⟩
abbrev main_call0_call0_v0 : Ref sig .tc := ⟨.hbm, 3, rfl⟩
abbrev main_call0_call0_v1 : Ref sig .tc := ⟨.hbm, 4, rfl⟩
abbrev main_call0_call0_v2 : Ref sig .tc := ⟨.hbm, 5, rfl⟩
abbrev main_call0_call0_v3 : Ref sig .tc := ⟨.hbm, 6, rfl⟩
abbrev main_call0_call0_v4 : Ref sig .tc := ⟨.hbm, 7, rfl⟩
abbrev main_call0_call0_v5 : Ref sig .tc := ⟨.hbm, 8, rfl⟩
abbrev main_call0_call0_v6 : Ref sig .tc := ⟨.hbm, 9, rfl⟩
abbrev main_call0_call0_v7 : Ref sig .tc := ⟨.hbm, 10, rfl⟩
abbrev main_call0_call0_v8 : Ref sig .tc := ⟨.hbm, 11, rfl⟩
abbrev main_call0_call0_v9 : Ref sig .tc := ⟨.hbm, 12, rfl⟩
abbrev main_call0_call0_v10 : Ref sig .tc := ⟨.hbm, 13, rfl⟩
abbrev main_call0_call0_v11 : Ref sig .tc := ⟨.hbm, 14, rfl⟩
abbrev main_call0_v1 : Ref sig .tc := ⟨.hbm, 15, rfl⟩
abbrev main_v0 : Ref sig .tc := ⟨.hbm, 16, rfl⟩
abbrev main_call1_call0_cst : Ref sig .tc := ⟨.hbm, 17, rfl⟩
abbrev main_call1_call0_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩

abbrev nD : Nat := 1
abbrev τ : Topo := Topo.v7x

variable {F : FTy → Type} [FloatOps F]
-- ==== Proof.Trips.lean ====
module
public import proofs.«01_k».proof.Defs
public import proofs.«01_k».proof.Proof.Gen.KernelIdeal.Value
public import Idealize.ShloMosaic.Lib.Pointwise
@[expose] public section
set_option maxRecDepth 16384
noncomputable section
open Idealize.ShloMosaic Idealize.ShloMosaic.TcCoe Idealize.SL.Sem
namespace Cert.KernelIdeal.Trips
open Cert.KernelIdeal Cert.KernelIdeal.Gen Cert.KernelIdeal.Value
/-- What the loop over key blocks carries: the running maximum, the running denominator and the running numerators. -/
abbrev St := FVec Ideal S1x512 .f32 × FVec Ideal S1x512 .f32 × FVec Ideal S160x512 .f32

/-- Block `n` of the keys. -/
def kblk (x : Vec Ideal S6144x160 .fp8e4m3) (n : ℕ) : Vec Ideal S512x160 .fp8e4m3 :=
  fun y => x (ix2 ⟨(n * 512 + (y 0).val) % 6144, Nat.mod_lt _ (by norm_num)⟩ (y 1))

/-- Block `n` of head `g`'s gates. -/
def tblk (x : Vec Ideal S4x6144x128 .f32) (g : Fin 4) (n : ℕ) : Vec Ideal S1x512x128 .f32 :=
  fun y => x (ix3 g ⟨(n * 512 + (y 1).val) % 6144, Nat.mod_lt _ (by norm_num)⟩ (y 2))

/-- Block `n` of the values. -/
def vblk (x : Vec Ideal S160x6144 .bf16) (n : ℕ) : Vec Ideal S160x512 .bf16 :=
  fun y => x (ix2 (y 0) ⟨(n * 512 + (y 1).val) % 6144, Nat.mod_lt _ (by norm_num)⟩)

/-- A load of 512 rows from row `512 n` on is block `n` of the keys. -/
theorem ld_kblk (x : Vec Ideal S6144x160 .fp8e4m3) {off : Fin 2 → ℕ} {n : ℕ} (h : off = ![n * 512, 0]) (hn : n < 12)
    (inb : ∀ a, off a + S512x160.size a ≤ S6144x160.size a) :
    View.ld x (Rect.unit off S512x160.size inb) = kblk x n := by
  subst h
  funext y
  idx_vars y
  unfold kblk
  pointwise
  congr 2
  all_goals (apply Fin.ext; simp; try omega)

/-- The same of the gates. -/
theorem ld_tblk (x : Vec Ideal S4x6144x128 .f32) {off : Fin 3 → ℕ} {n : ℕ} (g : Fin 4) (h : off = ![g.val, n * 512, 0]) (hn : n < 12)
    (inb : ∀ a, off a + S1x512x128.size a ≤ S4x6144x128.size a) :
    View.ld x (Rect.unit off S1x512x128.size inb) = tblk x g n := by
  subst h
  funext y
  idx_vars y
  unfold tblk
  pointwise
  congr 2
  all_goals (apply Fin.ext; simp; try omega)

/-- The same of the values, whose keys lie along the columns. -/
theorem ld_vblk (x : Vec Ideal S160x6144 .bf16) {off : Fin 2 → ℕ} {n : ℕ} (h : off = ![0, n * 512]) (hn : n < 12)
    (inb : ∀ a, off a + S160x512.size a ≤ S160x6144.size a) :
    View.ld x (Rect.unit off S160x512.size inb) = vblk x n := by
  subst h
  funext y
  idx_vars y
  unfold vblk
  pointwise
  congr 2
  all_goals (apply Fin.ext; simp; try omega)

/-- One trip of a head's loop: the state after one more block. -/
def next (al : EReal) (q : FVec Ideal S160x512 .fp8e4m3) (cq : FVec Ideal S1x512 .f32) (kb : Vec Ideal S512x160 .fp8e4m3)
    (tb : Vec Ideal S1x512x128 .f32) (vb : Vec Ideal S160x512 .bf16) (s : St) : St :=
  (k0_pay23 (F := Ideal) al q cq s.1 kb tb, k0_pay26 (F := Ideal) al q cq s.1 s.2.1 kb tb, k0_pay27 (F := Ideal) al q cq s.1 s.2.2 kb tb vb)

/-- The loops' counts: as many main trips as the block's number, -/
theorem trips_main : ∀ n : Fin 12, Scf.trips 0#32 (Scalar.addi 0#32 (Scalar.muli (Scalar.divsi (Scalar.subi (BitVec.ofNat 32 n.val) 0#32) 1#32) 1#32)) 1#32 = n.val := by
  decide +kernel

/-- and no trip of the loop over what is left. -/
theorem trips_rest : ∀ n : Fin 12, Scf.trips (Scalar.addi 0#32 (Scalar.muli (Scalar.divsi (Scalar.subi (BitVec.ofNat 32 n.val) 0#32) 1#32) 1#32)) (Scalar.addi 0#32 (Scalar.subi (BitVec.ofNat 32 n.val) 0#32)) 1#32 = 0 := by
  decide +kernel

/-- Where trip `n` reads. -/
theorem iv_off : ∀ n : Fin 12, (Scalar.indexCast (Scalar.muli (Scf.iv 0#32 1#32 n.val) 512#32)).toNat = n.val * 512 := by
  decide +kernel

/-- The state after `n` trips. -/
def run (al : EReal) (q : FVec Ideal S160x512 .fp8e4m3) (cq : FVec Ideal S1x512 .f32) (x0 : Vec Ideal S6144x160 .fp8e4m3)
    (x1 : Vec Ideal S160x6144 .bf16) (x2 : Vec Ideal S4x6144x128 .f32) (g : Fin 4) (s : St) : ℕ → St
  | 0 => s
  | n + 1 => next al q cq (kblk x0 n) (tblk x2 g n) (vblk x1 n) (run al q cq x0 x1 x2 g s n)

section
variable (𝒱 : Variants) (c : Dev nD) (bd : Option 𝒱.V) (i : grid0.Coords) (arg3 : Memref sig .tc .smem S2x24 .f32) (harg3 : arg3.IsWhole) (arg4 : Memref sig .tc .vmem S1x4x160x512 .fp8e4m3) (harg4 : arg4.IsWhole) (arg5 : Memref sig .tc .vmem S1x1x160x6144 .fp8e4m3) (harg5 : arg5.IsWhole) (arg6 : Memref sig .tc .vmem S1x1x160x6144 .fp8e4m3) (harg6 : arg6.IsWhole) (arg7 : Memref sig .tc .vmem S1x1x160x1 .f32) (harg7 : arg7.IsWhole) (arg8 : Memref sig .tc .vmem S1x1x4x512 .f32) (harg8 : arg8.IsWhole) (arg9 : Memref sig .tc .vmem S1x1x6144x4 .f32) (harg9 : arg9.IsWhole) (arg10 : Memref sig .tc .vmem S1x512x640 .bf16) (harg10 : arg10.IsWhole) (arg11 : Memref sig .tc .vmem S1x1x4x512 .f32) (harg11 : arg11.IsWhole) (arg12 : Memref sig .tc .vmem S6144x160 .fp8e4m3) (harg12 : arg12.IsWhole) (arg13 : Memref sig .tc .vmem S160x6144 .bf16) (harg13 : arg13.IsWhole) (arg14 : Memref sig .tc .vmem S4x6144x128 .f32) (harg14 : arg14.IsWhole) (arg15 : Memref sig .tc .vmem S640x512 .f32) (harg15 : arg15.IsWhole)
  (X12 : BufTy.Contents (Elt Ideal) arg12.view.ty) (X13 : BufTy.Contents (Elt Ideal) arg13.view.ty) (X14 : BufTy.Contents (Elt Ideal) arg14.view.ty)

/-- One trip of head 0's loop is `next` at the trip's block. -/
theorem trip1 (arg2 : BitVec 32) (v8 : EReal) (v10 : FVec Ideal S160x512 .fp8e4m3) (v12 v13 v14 : FVec Ideal S1x512 .f32) (v15 : FVec Ideal S160x512 .f32) (v29 : FVec Ideal S512x512 .f32) (v30 v32 : IVec S512x512 32) (k : Fin (k0_t1_loop i).trips) (s : St) :
    tripR_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v8 v10 v12 v13 v14 v15 v29 v30 v32 X12 X13 X14 k s
      = next v8 v10 v12 (kblk (arg12.view.read (Elt Ideal) X12) k) (tblk (arg14.view.read (Elt Ideal) X14) 0 k) (vblk (arg13.view.read (Elt Ideal) X13) k) s := by
  have hk : k.val < 12 := lt_of_lt_of_le k.isLt ((trips_main (i 2)).trans_le (Nat.le_of_lt (i 2).isLt))
  unfold tripR_k0_t1 trip_k0_t1
  dsimp only
  simp only [View.readAt_eq_ld]
  rw [ld_kblk (arg12.view.read (Elt Ideal) X12) (n := k) ?_ hk, ld_tblk (arg14.view.read (Elt Ideal) X14) (n := k) 0 ?_ hk, ld_vblk (arg13.view.read (Elt Ideal) X13) (n := k) ?_ hk]
  · rfl
  · exact congrArg (fun n => (![0, n] : Fin 2 → ℕ)) (iv_off ⟨k, hk⟩)
  · exact congrArg (fun n => (![0, n, 0] : Fin 3 → ℕ)) (iv_off ⟨k, hk⟩)
  · exact congrArg (fun n => (![n, 0] : Fin 2 → ℕ)) (iv_off ⟨k, hk⟩)

/-- Head 0's loop is `run`, and the loop over what is left does nothing. -/
theorem loop1 (arg2 : BitVec 32) (v8 : EReal) (v10 : FVec Ideal S160x512 .fp8e4m3) (v12 v13 v14 : FVec Ideal S1x512 .f32) (v15 : FVec Ideal S160x512 .f32) (v29 : FVec Ideal S512x512 .f32) (v30 v32 : IVec S512x512 32) (s : St) :
    st_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v8 v10 v12 v13 v14 v15 v29 v30 v32 X12 X13 X14
      ((st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v8 v10 v12 v13 v14 v15 v29 v30 v32 X12 X13 X14 s (Scf.trips 0#32 (Scalar.addi 0#32 (Scalar.muli (Scalar.divsi (Scalar.subi (BitVec.ofNat 32 (i 2).val) 0#32) 1#32) 1#32)) 1#32)).1,
        (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v8 v10 v12 v13 v14 v15 v29 v30 v32 X12 X13 X14 s (Scf.trips 0#32 (Scalar.addi 0#32 (Scalar.muli (Scalar.divsi (Scalar.subi (BitVec.ofNat 32 (i 2).val) 0#32) 1#32) 1#32)) 1#32)).2.1,
        (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v8 v10 v12 v13 v14 v15 v29 v30 v32 X12 X13 X14 s (Scf.trips 0#32 (Scalar.addi 0#32 (Scalar.muli (Scalar.divsi (Scalar.subi (BitVec.ofNat 32 (i 2).val) 0#32) 1#32) 1#32)) 1#32)).2.2) (Scf.trips (Scalar.addi 0#32 (Scalar.muli (Scalar.divsi (Scalar.subi (BitVec.ofNat 32 (i 2).val) 0#32) 1#32) 1#32)) (Scalar.addi 0#32 (Scalar.subi (BitVec.ofNat 32 (i 2).val) 0#32)) 1#32)
      = run v8 v10 v12 (arg12.view.read (Elt Ideal) X12) (arg13.view.read (Elt Ideal) X13) (arg14.view.read (Elt Ideal) X14) 0 s (i 2).val := by
  rw [trips_main (i 2), trips_rest (i 2)]
  have key : ∀ n, n ≤ (i 2).val →
      st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v8 v10 v12 v13 v14 v15 v29 v30 v32 X12 X13 X14 s n
        = run v8 v10 v12 (arg12.view.read (Elt Ideal) X12) (arg13.view.read (Elt Ideal) X13) (arg14.view.read (Elt Ideal) X14) 0 s n := by
    intro n
    induction n with
    | zero => intro _; rfl
    | succ n ih =>
      intro h
      rw [st_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v8 v10 v12 v13 v14 v15 v29 v30 v32 X12 X13 X14 s ⟨n, h.trans_eq (trips_main (i 2)).symm⟩, trip1, ih (Nat.le_of_succ_le h)]
      rfl
  exact key _ le_rfl

/-- One trip of head 1's loop is `next` at the trip's block. -/
theorem trip3 (arg2 : BitVec 32) (v93 : EReal) (v95 : FVec Ideal S160x512 .fp8e4m3) (v97 v98 v99 : FVec Ideal S1x512 .f32) (v100 : FVec Ideal S160x512 .f32) (v104 : FVec Ideal S512x512 .f32) (k : Fin (k0_t3_loop i).trips) (s : St) :
    tripR_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v93 v95 v97 v98 v99 v100 v104 X12 X13 X14 k s
      = next v93 v95 v97 (kblk (arg12.view.read (Elt Ideal) X12) k) (tblk (arg14.view.read (Elt Ideal) X14) 1 k) (vblk (arg13.view.read (Elt Ideal) X13) k) s := by
  have hk : k.val < 12 := lt_of_lt_of_le k.isLt ((trips_main (i 2)).trans_le (Nat.le_of_lt (i 2).isLt))
  unfold tripR_k0_t3 trip_k0_t3
  dsimp only
  simp only [View.readAt_eq_ld]
  rw [ld_kblk (arg12.view.read (Elt Ideal) X12) (n := k) ?_ hk, ld_tblk (arg14.view.read (Elt Ideal) X14) (n := k) 1 ?_ hk, ld_vblk (arg13.view.read (Elt Ideal) X13) (n := k) ?_ hk]
  · rfl
  · exact congrArg (fun n => (![0, n] : Fin 2 → ℕ)) (iv_off ⟨k, hk⟩)
  · exact congrArg (fun n => (![1, n, 0] : Fin 3 → ℕ)) (iv_off ⟨k, hk⟩)
  · exact congrArg (fun n => (![n, 0] : Fin 2 → ℕ)) (iv_off ⟨k, hk⟩)

/-- Head 1's loop is `run`, and the loop over what is left does nothing. -/
theorem loop3 (arg2 : BitVec 32) (v93 : EReal) (v95 : FVec Ideal S160x512 .fp8e4m3) (v97 v98 v99 : FVec Ideal S1x512 .f32) (v100 : FVec Ideal S160x512 .f32) (v104 : FVec Ideal S512x512 .f32) (s : St) :
    st_k0_t4 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v93 v95 v97 v98 v99 v100 v104 X12 X13 X14
      ((st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v93 v95 v97 v98 v99 v100 v104 X12 X13 X14 s (Scf.trips 0#32 (Scalar.addi 0#32 (Scalar.muli (Scalar.divsi (Scalar.subi (BitVec.ofNat 32 (i 2).val) 0#32) 1#32) 1#32)) 1#32)).1,
        (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v93 v95 v97 v98 v99 v100 v104 X12 X13 X14 s (Scf.trips 0#32 (Scalar.addi 0#32 (Scalar.muli (Scalar.divsi (Scalar.subi (BitVec.ofNat 32 (i 2).val) 0#32) 1#32) 1#32)) 1#32)).2.1,
        (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v93 v95 v97 v98 v99 v100 v104 X12 X13 X14 s (Scf.trips 0#32 (Scalar.addi 0#32 (Scalar.muli (Scalar.divsi (Scalar.subi (BitVec.ofNat 32 (i 2).val) 0#32) 1#32) 1#32)) 1#32)).2.2) (Scf.trips (Scalar.addi 0#32 (Scalar.muli (Scalar.divsi (Scalar.subi (BitVec.ofNat 32 (i 2).val) 0#32) 1#32) 1#32)) (Scalar.addi 0#32 (Scalar.subi (BitVec.ofNat 32 (i 2).val) 0#32)) 1#32)
      = run v93 v95 v97 (arg12.view.read (Elt Ideal) X12) (arg13.view.read (Elt Ideal) X13) (arg14.view.read (Elt Ideal) X14) 1 s (i 2).val := by
  rw [trips_main (i 2), trips_rest (i 2)]
  have key : ∀ n, n ≤ (i 2).val →
      st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v93 v95 v97 v98 v99 v100 v104 X12 X13 X14 s n
        = run v93 v95 v97 (arg12.view.read (Elt Ideal) X12) (arg13.view.read (Elt Ideal) X13) (arg14.view.read (Elt Ideal) X14) 1 s n := by
    intro n
    induction n with
    | zero => intro _; rfl
    | succ n ih =>
      intro h
      rw [st_k0_t3_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v93 v95 v97 v98 v99 v100 v104 X12 X13 X14 s ⟨n, h.trans_eq (trips_main (i 2)).symm⟩, trip3, ih (Nat.le_of_succ_le h)]
      rfl
  exact key _ le_rfl

/-- One trip of head 2's loop is `next` at the trip's block. -/
theorem trip5 (arg0 arg1 arg2 : BitVec 32) (v178 : EReal) (v180 : FVec Ideal S160x512 .fp8e4m3) (v182 v213 v222 : FVec Ideal S1x512 .f32) (v230 : FVec Ideal S160x512 .f32) (c0_i32_110 : BitVec 32) (k : Fin (k0_t5_loop i).trips) (s : St) :
    tripR_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg0 arg1 arg2 v178 v180 v182 v213 v222 v230 c0_i32_110 X12 X13 X14 k s
      = next v178 v180 v182 (kblk (arg12.view.read (Elt Ideal) X12) k) (tblk (arg14.view.read (Elt Ideal) X14) 2 k) (vblk (arg13.view.read (Elt Ideal) X13) k) s := by
  have hk : k.val < 12 := lt_of_lt_of_le k.isLt ((trips_main (i 2)).trans_le (Nat.le_of_lt (i 2).isLt))
  unfold tripR_k0_t5 trip_k0_t5
  dsimp only
  simp only [View.readAt_eq_ld]
  rw [ld_kblk (arg12.view.read (Elt Ideal) X12) (n := k) ?_ hk, ld_tblk (arg14.view.read (Elt Ideal) X14) (n := k) 2 ?_ hk, ld_vblk (arg13.view.read (Elt Ideal) X13) (n := k) ?_ hk]
  · rfl
  · exact congrArg (fun n => (![0, n] : Fin 2 → ℕ)) (iv_off ⟨k, hk⟩)
  · exact congrArg (fun n => (![2, n, 0] : Fin 3 → ℕ)) (iv_off ⟨k, hk⟩)
  · exact congrArg (fun n => (![n, 0] : Fin 2 → ℕ)) (iv_off ⟨k, hk⟩)

/-- Head 2's loop is `run`, and the loop over what is left does nothing. -/
theorem loop5 (arg0 arg1 arg2 : BitVec 32) (v178 : EReal) (v180 : FVec Ideal S160x512 .fp8e4m3) (v182 v213 v222 : FVec Ideal S1x512 .f32) (v230 : FVec Ideal S160x512 .f32) (c0_i32_110 : BitVec 32) (s : St) :
    st_k0_t6 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg0 arg1 arg2 v178 v180 v182 v213 v222 v230 c0_i32_110 X12 X13 X14
      ((st_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg0 arg1 arg2 v178 v180 v182 v213 v222 v230 c0_i32_110 X12 X13 X14 s (Scf.trips 0#32 (Scalar.addi 0#32 (Scalar.muli (Scalar.divsi (Scalar.subi (BitVec.ofNat 32 (i 2).val) 0#32) 1#32) 1#32)) 1#32)).1,
        (st_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg0 arg1 arg2 v178 v180 v182 v213 v222 v230 c0_i32_110 X12 X13 X14 s (Scf.trips 0#32 (Scalar.addi 0#32 (Scalar.muli (Scalar.divsi (Scalar.subi (BitVec.ofNat 32 (i 2).val) 0#32) 1#32) 1#32)) 1#32)).2.1,
        (st_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg0 arg1 arg2 v178 v180 v182 v213 v222 v230 c0_i32_110 X12 X13 X14 s (Scf.trips 0#32 (Scalar.addi 0#32 (Scalar.muli (Scalar.divsi (Scalar.subi (BitVec.ofNat 32 (i 2).val) 0#32) 1#32) 1#32)) 1#32)).2.2) (Scf.trips (Scalar.addi 0#32 (Scalar.muli (Scalar.divsi (Scalar.subi (BitVec.ofNat 32 (i 2).val) 0#32) 1#32) 1#32)) (Scalar.addi 0#32 (Scalar.subi (BitVec.ofNat 32 (i 2).val) 0#32)) 1#32)
      = run v178 v180 v182 (arg12.view.read (Elt Ideal) X12) (arg13.view.read (Elt Ideal) X13) (arg14.view.read (Elt Ideal) X14) 2 s (i 2).val := by
  rw [trips_main (i 2), trips_rest (i 2)]
  have key : ∀ n, n ≤ (i 2).val →
      st_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg0 arg1 arg2 v178 v180 v182 v213 v222 v230 c0_i32_110 X12 X13 X14 s n
        = run v178 v180 v182 (arg12.view.read (Elt Ideal) X12) (arg13.view.read (Elt Ideal) X13) (arg14.view.read (Elt Ideal) X14) 2 s n := by
    intro n
    induction n with
    | zero => intro _; rfl
    | succ n ih =>
      intro h
      rw [st_k0_t5_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg0 arg1 arg2 v178 v180 v182 v213 v222 v230 c0_i32_110 X12 X13 X14 s ⟨n, h.trans_eq (trips_main (i 2)).symm⟩, trip5, ih (Nat.le_of_succ_le h)]
      rfl
  exact key _ le_rfl

/-- One trip of head 3's loop is `next` at the trip's block. -/
theorem trip7 (arg2 : BitVec 32) (v263 : EReal) (v265 : FVec Ideal S160x512 .fp8e4m3) (v267 : FVec Ideal S1x512 .f32) (v270 : FVec Ideal S160x512 .f32) (v298 v300 : FVec Ideal S1x512 .f32) (v303 : FVec Ideal S512x512 .f32) (v307 : FVec Ideal S1x512 .f32) (k : Fin (k0_t7_loop i).trips) (s : St) :
    tripR_k0_t7 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v263 v265 v267 v270 v298 v300 v303 v307 X12 X13 X14 k s
      = next v263 v265 v267 (kblk (arg12.view.read (Elt Ideal) X12) k) (tblk (arg14.view.read (Elt Ideal) X14) 3 k) (vblk (arg13.view.read (Elt Ideal) X13) k) s := by
  have hk : k.val < 12 := lt_of_lt_of_le k.isLt ((trips_main (i 2)).trans_le (Nat.le_of_lt (i 2).isLt))
  unfold tripR_k0_t7 trip_k0_t7
  dsimp only
  simp only [View.readAt_eq_ld]
  rw [ld_kblk (arg12.view.read (Elt Ideal) X12) (n := k) ?_ hk, ld_tblk (arg14.view.read (Elt Ideal) X14) (n := k) 3 ?_ hk, ld_vblk (arg13.view.read (Elt Ideal) X13) (n := k) ?_ hk]
  · rfl
  · exact congrArg (fun n => (![0, n] : Fin 2 → ℕ)) (iv_off ⟨k, hk⟩)
  · exact congrArg (fun n => (![3, n, 0] : Fin 3 → ℕ)) (iv_off ⟨k, hk⟩)
  · exact congrArg (fun n => (![n, 0] : Fin 2 → ℕ)) (iv_off ⟨k, hk⟩)

/-- Head 3's loop is `run`, and the loop over what is left does nothing. -/
theorem loop7 (arg2 : BitVec 32) (v263 : EReal) (v265 : FVec Ideal S160x512 .fp8e4m3) (v267 : FVec Ideal S1x512 .f32) (v270 : FVec Ideal S160x512 .f32) (v298 v300 : FVec Ideal S1x512 .f32) (v303 : FVec Ideal S512x512 .f32) (v307 : FVec Ideal S1x512 .f32) (s : St) :
    st_k0_t8 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v263 v265 v267 v270 v298 v300 v303 v307 X12 X13 X14
      ((st_k0_t7 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v263 v265 v267 v270 v298 v300 v303 v307 X12 X13 X14 s (Scf.trips 0#32 (Scalar.addi 0#32 (Scalar.muli (Scalar.divsi (Scalar.subi (BitVec.ofNat 32 (i 2).val) 0#32) 1#32) 1#32)) 1#32)).1,
        (st_k0_t7 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v263 v265 v267 v270 v298 v300 v303 v307 X12 X13 X14 s (Scf.trips 0#32 (Scalar.addi 0#32 (Scalar.muli (Scalar.divsi (Scalar.subi (BitVec.ofNat 32 (i 2).val) 0#32) 1#32) 1#32)) 1#32)).2.1,
        (st_k0_t7 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v263 v265 v267 v270 v298 v300 v303 v307 X12 X13 X14 s (Scf.trips 0#32 (Scalar.addi 0#32 (Scalar.muli (Scalar.divsi (Scalar.subi (BitVec.ofNat 32 (i 2).val) 0#32) 1#32) 1#32)) 1#32)).2.2) (Scf.trips (Scalar.addi 0#32 (Scalar.muli (Scalar.divsi (Scalar.subi (BitVec.ofNat 32 (i 2).val) 0#32) 1#32) 1#32)) (Scalar.addi 0#32 (Scalar.subi (BitVec.ofNat 32 (i 2).val) 0#32)) 1#32)
      = run v263 v265 v267 (arg12.view.read (Elt Ideal) X12) (arg13.view.read (Elt Ideal) X13) (arg14.view.read (Elt Ideal) X14) 3 s (i 2).val := by
  rw [trips_main (i 2), trips_rest (i 2)]
  have key : ∀ n, n ≤ (i 2).val →
      st_k0_t7 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v263 v265 v267 v270 v298 v300 v303 v307 X12 X13 X14 s n
        = run v263 v265 v267 (arg12.view.read (Elt Ideal) X12) (arg13.view.read (Elt Ideal) X13) (arg14.view.read (Elt Ideal) X14) 3 s n := by
    intro n
    induction n with
    | zero => intro _; rfl
    | succ n ih =>
      intro h
      rw [st_k0_t7_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v263 v265 v267 v270 v298 v300 v303 v307 X12 X13 X14 s ⟨n, h.trans_eq (trips_main (i 2)).symm⟩, trip7, ih (Nat.le_of_succ_le h)]
      rfl
  exact key _ le_rfl

end

end Cert.KernelIdeal.Trips
-- ==== Proof.Softmax.lean ====
/-
  The mathematics of the attention row, over the extended reals and with no program in sight: a softmax taken
  block of keys by block of keys in base two, with a running maximum, against the softmax of the whole row in
  base e.
-/
module

public import Idealize.ShloMosaic.PureOps.Ideal

@[expose] public section

noncomputable section

open Idealize.ShloMosaic

namespace Cert.Softmax

/-- The logarithm of two is positive. -/
theorem ln2_pos : 0 < Real.log 2 := Real.log_pos (by norm_num)

/-- A power of two is nowhere negative. -/
theorem exp2_nonneg (x : EReal) : 0 ≤ Ideal.exp2 x := by
  induction x with
  | bot => simp
  | top => simp
  | coe r => rw [Ideal.exp2_coe]; exact_mod_cast Real.rpow_nonneg (by norm_num) r

/-- The difference of two extended reals in order is no greater than zero. -/
theorem sub_nonpos_of_le {x y : EReal} (h : x ≤ y) : x - y ≤ 0 := by
  induction x with
  | bot => simp
  | top => rw [top_le_iff] at h; subst h; simp
  | coe r =>
    induction y with
    | bot => simp at h
    | top => simp
    | coe s => rw [← EReal.coe_sub]; exact_mod_cast sub_nonpos.mpr (EReal.coe_le_coe_iff.mp h)

/-- A power of two whose exponent is not positive is not infinite. -/
theorem exp2_ne_top {x : EReal} (h : x ≤ 0) : Ideal.exp2 x ≠ ⊤ := by
  induction x with
  | bot => simp
  | top => simp at h
  | coe r => rw [Ideal.exp2_coe]; exact EReal.coe_ne_top _

/-- Moving the reference point of a power from `m` up to `n`. -/
theorem exp2_shift {x m n : EReal} (hx : x ≤ m) (hm : m ≠ ⊥) (hn : m ≤ n) :
    Ideal.exp2 (x - m) * Ideal.exp2 (m - n) = Ideal.exp2 (x - n) := by
  induction m with
  | bot => exact absurd rfl hm
  | top => rw [top_le_iff] at hn; subst hn; simp
  | coe r =>
    induction x with
    | top => simp at hx
    | bot => simp
    | coe s =>
      induction n with
      | bot => simp at hn
      | top => simp
      | coe t =>
        rw [← EReal.coe_sub, ← EReal.coe_sub, ← EReal.coe_sub, Ideal.exp2_coe, Ideal.exp2_coe, Ideal.exp2_coe,
          ← EReal.coe_mul]
        congr 1
        show (2 : ℝ) ^ (s - r) * (2 : ℝ) ^ (r - t) = (2 : ℝ) ^ (s - t)
        rw [← Real.rpow_add (by norm_num)]
        congr 1; ring

/-- A factor that is neither negative nor infinite distributes over a finite sum. -/
theorem sum_mul {ι : Type*} (S : Finset ι) (f : ι → EReal) {a : EReal} (h0 : 0 ≤ a) (h1 : a ≠ ⊤) :
    (∑ k ∈ S, f k) * a = ∑ k ∈ S, f k * a := by
  classical
  induction S using Finset.induction_on with
  | empty => simp
  | insert b S hb ih =>
    rw [Finset.sum_insert hb, Finset.sum_insert hb, EReal.right_distrib_of_nonneg_of_ne_top h0 h1, ih]

variable {ι δ : Type*}

/-- What the running maximum `m`, the running denominator `l` and the running numerators `acc` hold once the keys of
`S` have been seen: the maximum from `M` on, and the two sums with that maximum as the reference point. -/
structure Inv (X : ι → EReal) (W : δ → ι → EReal) (M : EReal) (S : Finset ι) (m l : EReal) (acc : δ → EReal) :
    Prop where
  max : m = M ⊔ S.sup X
  den : l = ∑ k ∈ S, Ideal.exp2 (X k - m)
  num : ∀ d, acc d = ∑ k ∈ S, W d k * Ideal.exp2 (X k - m)

/-- Before any key. -/
theorem Inv.init (X : ι → EReal) (W : δ → ι → EReal) (M : EReal) : Inv X W M ∅ M 0 (fun _ => 0) :=
  ⟨by simp, by simp, by simp⟩

/-- One more block of keys: the old sums are moved to the new maximum and the block's own are added. -/
theorem Inv.step [DecidableEq ι] {X : ι → EReal} {W : δ → ι → EReal} {M : EReal} (hM : M ≠ ⊥) {S B : Finset ι}
    (hd : Disjoint S B) {m l : EReal} {acc : δ → EReal} (h : Inv X W M S m l acc) :
    Inv X W M (S ∪ B) (m ⊔ B.sup X)
      (l * Ideal.exp2 (m - (m ⊔ B.sup X)) + ∑ k ∈ B, Ideal.exp2 (X k - (m ⊔ B.sup X)))
      (fun d => acc d * Ideal.exp2 (m - (m ⊔ B.sup X))
        + ∑ k ∈ B, W d k * Ideal.exp2 (X k - (m ⊔ B.sup X))) := by
  have hm : m ≠ ⊥ := by
    rw [h.max]; intro e; exact hM (le_bot_iff.mp (e ▸ le_sup_left))
  have hle : m ≤ m ⊔ B.sup X := le_sup_left
  have h1 := exp2_ne_top (sub_nonpos_of_le hle)
  have h0 := exp2_nonneg (m - (m ⊔ B.sup X))
  have hk : ∀ k ∈ S, X k ≤ m := fun k hk => by rw [h.max]; exact (Finset.le_sup hk).trans le_sup_right
  refine ⟨?_, ?_, fun d => ?_⟩
  · rw [Finset.sup_union, ← sup_assoc, ← h.max]
  · rw [Finset.sum_union hd]
    congr 1
    conv_lhs => rw [h.den]
    rw [sum_mul _ _ h0 h1]
    exact Finset.sum_congr rfl fun k hS => exp2_shift (hk k hS) hm hle
  · rw [Finset.sum_union hd]
    congr 1
    conv_lhs => rw [h.num d]
    rw [sum_mul _ _ h0 h1]
    exact Finset.sum_congr rfl fun k hS => by rw [mul_assoc, exp2_shift (hk k hS) hm hle]

/-- Keys whose logit is minus infinity may be counted in or left out. -/
theorem Inv.widen {X : ι → EReal} {W : δ → ι → EReal} {M : EReal} {S T : Finset ι} (hST : S ⊆ T)
    (hX : ∀ k ∈ T, k ∉ S → X k = ⊥) {m l : EReal} {acc : δ → EReal} (h : Inv X W M S m l acc) :
    Inv X W M T m l acc := by
  refine ⟨?_, ?_, fun d => ?_⟩
  · rw [h.max]
    congr 1
    refine le_antisymm (Finset.sup_mono hST) (Finset.sup_le fun k hk => ?_)
    by_cases hS : k ∈ S
    · exact Finset.le_sup hS
    · rw [hX k hk hS]; exact bot_le
  · rw [h.den]
    refine Finset.sum_subset hST fun k hk hS => ?_
    rw [hX k hk hS]; simp
  · rw [h.num d]
    refine Finset.sum_subset hST fun k hk hS => ?_
    rw [hX k hk hS]; simp

/-- `Inv.step` with the block given by an injection of its positions into the keys, and its logits, values, new maximum
and rescaling factor as a program computes them. -/
theorem Inv.step_block [DecidableEq ι] {κ : Type*} [Fintype κ] {X : ι → EReal} {W : δ → ι → EReal} {M : EReal}
    (hM : M ≠ ⊥) {S : Finset ι} (b : κ ↪ ι) (hd : ∀ j, b j ∉ S) {m l : EReal} {acc : δ → EReal}
    (h : Inv X W M S m l acc) {x : κ → EReal} (hx : ∀ j, x j = X (b j)) {w : δ → κ → EReal}
    (hw : ∀ d j, w d j = W d (b j)) {n : EReal} (hn : n = m ⊔ Finset.univ.sup x) {l' : EReal}
    (hl : l' = l * Ideal.exp2 (m - n) + ∑ j, Ideal.exp2 (x j - n)) {acc' : δ → EReal}
    (ha : ∀ d, acc' d = acc d * Ideal.exp2 (m - n) + ∑ j, w d j * Ideal.exp2 (x j - n)) :
    Inv X W M (S ∪ Finset.univ.map b) n l' acc' := by
  have hdis : Disjoint S (Finset.univ.map b) := by
    rw [Finset.disjoint_right]
    intro k hk
    obtain ⟨j, -, rfl⟩ := Finset.mem_map.mp hk
    exact hd j
  have hs := h.step hM hdis
  have hsup : (Finset.univ.map b).sup X = Finset.univ.sup x := by
    rw [Finset.sup_map]; exact Finset.sup_congr rfl fun j _ => (hx j).symm
  rw [hsup, ← hn] at hs
  simp only [Finset.sum_map, ← hx, ← hw] at hs
  rw [← hl] at hs
  have : acc' = _ := funext ha
  rw [this]
  exact hs

/-! ## The end of the row -/

/-- The exponential of a logarithm-of-two multiple is a power of two, on every extended real. -/
theorem exp_mul_ln2 (x : EReal) : Ideal.exp (x * (Real.log 2 : ℝ)) = Ideal.exp2 x := by
  induction x with
  | bot => rw [EReal.bot_mul_coe_of_pos ln2_pos]; simp
  | top => rw [EReal.top_mul_coe_of_pos ln2_pos]; simp
  | coe r =>
    rw [← EReal.coe_mul, Ideal.exp_coe, Ideal.exp2_coe]
    congr 1
    show Real.exp (r * Real.log 2) = (2 : ℝ) ^ r
    rw [Real.rpow_def_of_pos (by norm_num), mul_comm]

/-- A positive real factor distributes over a difference of extended reals. -/
theorem sub_mul_pos {c : ℝ} (hc : 0 < c) (x y : EReal) : (x - y) * (c : EReal) = x * c - y * c := by
  rw [sub_eq_add_neg, sub_eq_add_neg, ← EReal.neg_mul,
    EReal.right_distrib_of_nonneg_of_ne_top (by exact_mod_cast hc.le) (EReal.coe_ne_top c)]

/-- The greatest of the logits in base e is the greatest of those in base two, changed to base e. -/
theorem sup_mul_pos [Fintype ι] [Nonempty ι] {c : ℝ} (hc : 0 < c) (X : ι → EReal) :
    Finset.univ.sup (fun k => X k * (c : EReal)) = Finset.univ.sup X * (c : EReal) := by
  have hmono : Monotone fun x : EReal => x * (c : EReal) := fun a b h => by
    exact mul_le_mul_of_nonneg_right h (by exact_mod_cast hc.le)
  refine le_antisymm (Finset.sup_le fun k _ => hmono (Finset.le_sup (Finset.mem_univ k))) ?_
  obtain ⟨k, -, hk⟩ := Finset.exists_mem_eq_sup (Finset.univ : Finset ι) Finset.univ_nonempty X
  rw [hk]
  exact Finset.le_sup (f := fun k => X k * (c : EReal)) (Finset.mem_univ k)

/-- One over a positive real. -/
theorem one_div_coe {r : ℝ} (h : r ≠ 0) : Ideal.div 1 (r : EReal) = ((r⁻¹ : ℝ) : EReal) := by
  rw [Ideal.div_coe h, one_mul, one_div]

/-- A finite sum of reals is the same sum among the extended reals. -/
theorem coe_sum (S : Finset ι) (f : ι → ℝ) : ((∑ k ∈ S, f k : ℝ) : EReal) = ∑ k ∈ S, (f k : EReal) := by
  classical
  induction S using Finset.induction_on with
  | empty => simp
  | insert b S hb ih => rw [Finset.sum_insert hb, Finset.sum_insert hb, EReal.coe_add, ih]

/-- THE ROW. What the blockwise program leaves of a row — its maximum, denominator and numerators, taken in base two from
a finite starting maximum — gives the softmax of the row in base e, at every extended real: the weighted sum of the
values, and the logarithm of the denominator. -/
theorem row [Fintype ι] [Nonempty ι] {X : ι → EReal} {W : δ → ι → EReal} {M : ℝ} {m l : EReal} {acc : δ → EReal}
    (h : Inv X W (M : EReal) Finset.univ m l acc) {Y : ι → EReal} (hY : ∀ k, Y k = X k * (Real.log 2 : ℝ)) {mr lr : EReal}
    (hmr : mr = Finset.univ.sup Y) (hlr : lr = ∑ k, Ideal.exp (Y k - mr)) :
    (m + Ideal.log l * ((Real.log 2)⁻¹ : ℝ)) * (Real.log 2 : ℝ) = mr + Ideal.log lr ∧
    ∀ d, acc d * Ideal.div 1 l = ∑ k, Ideal.exp (Y k - mr) * Ideal.div 1 lr * W d k := by
  set s := Finset.univ.sup X with hs
  have hmr' : mr = s * (Real.log 2 : ℝ) := by
    rw [hmr, hs, ← sup_mul_pos ln2_pos]; exact Finset.sup_congr rfl fun k _ => hY k
  have he : ∀ k, Ideal.exp (Y k - mr) = Ideal.exp2 (X k - s) := fun k => by
    rw [hY, hmr', ← sub_mul_pos ln2_pos, exp_mul_ln2]
  simp only [he] at hlr ⊢
  have hm := h.max
  rw [← hs] at hm
  have hden := h.den
  have hnum := h.num
  have hXs : ∀ k, X k ≤ s := fun k => Finset.le_sup (Finset.mem_univ k)
  clear_value s
  -- the two ends, at which every weight is zero
  have hdead : (∀ k, Ideal.exp2 (X k - m) = 0) → (∀ k, Ideal.exp2 (X k - s) = 0) →
      (∀ d, acc d * Ideal.div 1 l = ∑ k, Ideal.exp2 (X k - s) * Ideal.div 1 lr * W d k) ∧ l = 0 ∧ lr = 0 := by
    intro h1 h2
    refine ⟨fun d => ?_, by rw [hden]; simp [h1], by rw [hlr]; simp [h2]⟩
    rw [hnum]; simp [h1, h2]
  have hlog0 : Ideal.log 0 = ⊥ := by
    rw [show (0 : EReal) = ((0 : ℝ) : EReal) from rfl, Ideal.log_coe, if_pos le_rfl]
  induction s with
  | top =>
    have hmt : m = ⊤ := by rw [hm]; simp
    obtain ⟨h1, h2, h3⟩ := hdead (fun k => by rw [hmt]; simp) (fun k => by simp)
    refine ⟨?_, h1⟩
    rw [h2, h3, hlog0, EReal.bot_mul_coe_of_pos (inv_pos.mpr ln2_pos)]
    simp [EReal.bot_mul_coe_of_pos ln2_pos]
  | bot =>
    have hX : ∀ k, X k = ⊥ := fun k => le_bot_iff.mp (hXs k)
    obtain ⟨h1, h2, h3⟩ := hdead (fun k => by rw [hX]; simp) (fun k => by rw [hX]; simp)
    refine ⟨?_, h1⟩
    rw [h2, h3, hlog0, EReal.bot_mul_coe_of_pos (inv_pos.mpr ln2_pos)]
    simp [EReal.bot_mul_coe_of_pos ln2_pos]
  | coe s =>
    obtain ⟨t, rfl⟩ : ∃ t : ℝ, m = t := ⟨max M s, by rw [hm]; exact (EReal.coe_strictMono.monotone.map_max).symm⟩
    have hst : (s : EReal) ≤ t := by rw [hm]; exact le_sup_right
    set c : ℝ := (2 : ℝ) ^ (s - t) with hc
    have hc0 : 0 < c := Real.rpow_pos_of_pos (by norm_num) _
    have hce : Ideal.exp2 ((s : EReal) - t) = (c : EReal) := by rw [← EReal.coe_sub, Ideal.exp2_coe]; rfl
    have hw : ∀ k, Ideal.exp2 (X k - t) = Ideal.exp2 (X k - s) * (c : EReal) := fun k => by
      rw [← hce, exp2_shift (hXs k) (EReal.coe_ne_bot s) hst]
    have hc0' : (0 : EReal) ≤ (c : EReal) := by exact_mod_cast hc0.le
    -- the weights and their sum are real
    have hreal : ∀ k, ∃ r : ℝ, 0 ≤ r ∧ Ideal.exp2 (X k - s) = (r : EReal) := fun k => by
      have h0 := exp2_nonneg (X k - s)
      have h1 := exp2_ne_top (sub_nonpos_of_le (hXs k))
      refine ⟨(Ideal.exp2 (X k - s)).toReal, EReal.toReal_nonneg h0, (EReal.coe_toReal h1 ?_).symm⟩
      intro hb; rw [hb] at h0; simp at h0
    choose r hr0 hr using hreal
    have hlr' : lr = ((∑ k, r k : ℝ) : EReal) := by
      rw [hlr, coe_sum]; exact Finset.sum_congr rfl fun k _ => hr k
    obtain ⟨k₀, hk₀⟩ : ∃ k, X k = s := by
      obtain ⟨k, -, hk⟩ := Finset.exists_mem_eq_sup (Finset.univ : Finset ι) Finset.univ_nonempty X
      exact ⟨k, by rw [← hk, ← hs]⟩
    set L : ℝ := ∑ k, r k with hL
    have hL0 : 0 < L := by
      refine Finset.sum_pos' (fun k _ => hr0 k) ⟨k₀, Finset.mem_univ _, ?_⟩
      have := hr k₀
      rw [hk₀, ← EReal.coe_sub, Ideal.exp2_coe] at this
      rw [← EReal.coe_eq_coe_iff.mp this]
      exact Real.rpow_pos_of_pos (by norm_num) _
    have hl : l = ((L * c : ℝ) : EReal) := by
      rw [hden, EReal.coe_mul, ← hlr', hlr, sum_mul _ _ hc0' (EReal.coe_ne_top c)]
      exact Finset.sum_congr rfl fun k _ => hw k
    refine ⟨?_, fun d => ?_⟩
    · rw [hmr', hl, hlr', Ideal.log_coe, Ideal.log_coe, if_neg (not_le.mpr (mul_pos hL0 hc0)), if_neg (not_le.mpr hL0)]
      norm_cast
      rw [Real.log_mul hL0.ne' hc0.ne', hc, Real.log_rpow (by norm_num)]
      have := ln2_pos.ne'
      field_simp
      ring
    · have hcL : L * c ≠ 0 := (mul_pos hL0 hc0).ne'
      have hacc : acc d = (∑ k, W d k * Ideal.exp2 (X k - s)) * (c : EReal) := by
        rw [hnum, sum_mul _ _ hc0' (EReal.coe_ne_top c)]
        exact Finset.sum_congr rfl fun k _ => by rw [hw, mul_assoc]
      rw [hacc, hl, hlr', one_div_coe hcL, one_div_coe hL0.ne', mul_assoc, ← EReal.coe_mul,
        show c * (L * c)⁻¹ = L⁻¹ by field_simp,
        sum_mul _ _ (by exact_mod_cast (inv_pos.mpr hL0).le) (EReal.coe_ne_top _)]
      exact Finset.sum_congr rfl fun k _ => by rw [mul_assoc, mul_comm]

end Cert.Softmax

end
-- ==== Proof.Lane.lean ====
module
public import proofs.«01_k».proof.Defs
public import proofs.«01_k».proof.Proof.Gen.KernelIdeal.Value
public import Idealize.ShloMosaic.Lib.Pointwise
public import Idealize.ShloMosaic.Lib.WordCmp
public import proofs.«01_k».proof.Proof.Trips
public import proofs.«01_k».proof.Proof.Softmax
@[expose] public section
set_option maxRecDepth 16384
noncomputable section
open Idealize.ShloMosaic Idealize.ShloMosaic.TcCoe Idealize.SL.Sem
namespace Cert.KernelIdeal.Lane
open Cert.KernelIdeal Cert.KernelIdeal.Gen Cert.KernelIdeal.Value
open Cert.KernelIdeal.Trips Cert.Softmax

/-- One step of the running softmax: the block `x` of logits (a row per key, a column per query) and the block `vb` of values
enter the running maximum, denominator and numerators. -/
def upd (x : FVec Ideal S512x512 .f32) (vb : Vec Ideal S160x512 .bf16) (s : St) : St :=
  have n : FVec Ideal S1x512 .f32 := maximumf s.1 (shapeCast S1x512 (multiReduction .maximumf [0] S512 x 0xFF800000#32 reduces_S512x512_S512 (.inl rfl) rfl : FVec Ideal S512 .f32) shapeCasts_S512_S1x512)
  have a : FVec Ideal S1x512 .f32 := exp2 (subf s.1 n)
  have e : FVec Ideal S512x512 .f32 := exp2 (subf x (broadcastTo S512x512 n broadcasts_S1x512_S512x512))
  (n, addf (mulf s.2.1 a) (shapeCast S1x512 (multiReduction .add [0] S512 e 0x00000000#32 reduces_S512x512_S512 (.inl rfl) rfl : FVec Ideal S512 .f32) shapeCasts_S512_S1x512),
    addf (mulf s.2.2 (broadcastTo S160x512 a broadcasts_S1x512_S160x512))
      (matmul dot_S160x512_S512x512_S160x512_1_0_0_1_n_n none (φ₁ := .bf16) vb (truncf .bf16 e bitsLt_bf16_f32) (constant S160x512 .f32 0x00000000#32)))

/-- The block's logits. -/
abbrev logits (al : EReal) (q : FVec Ideal S160x512 .fp8e4m3) (cq : FVec Ideal S1x512 .f32) (kb : Vec Ideal S512x160 .fp8e4m3)
    (tb : Vec Ideal S1x512x128 .f32) : FVec Ideal S512x512 .f32 :=
  k0_pay22 (F := Ideal) al q cq kb tb

/-- A trip is a step on the block's logits. -/
theorem next_eq (al : EReal) (q : FVec Ideal S160x512 .fp8e4m3) (cq : FVec Ideal S1x512 .f32) (kb : Vec Ideal S512x160 .fp8e4m3)
    (tb : Vec Ideal S1x512x128 .f32) (vb : Vec Ideal S160x512 .bf16) (s : St) :
    next al q cq kb tb vb s = upd (logits al q cq kb tb) vb s := rfl

/-- The diagonal block `n`, the keys after the query put at `-∞`. -/
def diag (n : ℕ) (x : FVec Ideal S512x512 .f32) : FVec Ideal S512x512 .f32 :=
  k0_pay16 (F := Ideal) (BitVec.ofNat 32 n) x (iota .tc S512x512 32 [0] iota_S512x512_d0_w32)
    (broadcast S512x512 (Scalar.muli (BitVec.ofNat 32 n) 512#32))

/-- The state before any block. -/
def s0 : St := (k0_pay11 (F := Ideal), k0_pay12 (F := Ideal), k0_pay13 (F := Ideal))

/-- A head's state after its diagonal block `n` and the blocks before it. -/
def head (n : ℕ) (al : EReal) (q : FVec Ideal S160x512 .fp8e4m3) (cq : FVec Ideal S1x512 .f32) (x0 : Vec Ideal S6144x160 .fp8e4m3)
    (x1 : Vec Ideal S160x6144 .bf16) (x2 : Vec Ideal S4x6144x128 .f32) (g : Fin 4) : St :=
  run al q cq x0 x1 x2 g (upd (diag n (logits al q cq (kblk x0 n) (tblk x2 g n))) (vblk x1 n) s0) n

theorem bot_bits : Ideal.ofBits .f32 0xFF800000#32 = ⊥ := by simp [Ideal.ofBits, Ideal.ieee]

theorem upd_max (x : FVec Ideal S512x512 .f32) (vb : Vec Ideal S160x512 .bf16) (s : St) (j : Fin 512) :
    (upd x vb s).1 (ix2 0 j) = s.1 (ix2 0 j) ⊔ Finset.univ.sup fun k : Fin 512 => x (ix2 k j) := by
  unfold upd
  dsimp only
  pointwise
  rw [bot_bits]
  rfl

theorem upd_den (x : FVec Ideal S512x512 .f32) (vb : Vec Ideal S160x512 .bf16) (s : St) (j : Fin 512) :
    (upd x vb s).2.1 (ix2 0 j) = s.2.1 (ix2 0 j) * Ideal.exp2 (s.1 (ix2 0 j) - (upd x vb s).1 (ix2 0 j))
      + ∑ k : Fin 512, Ideal.exp2 (x (ix2 k j) - (upd x vb s).1 (ix2 0 j)) := by
  rw [upd_max]
  unfold upd
  dsimp only
  pointwise
  rw [bot_bits]
  rfl

theorem upd_num (x : FVec Ideal S512x512 .f32) (vb : Vec Ideal S160x512 .bf16) (s : St) (d : Fin 160) (j : Fin 512) :
    (upd x vb s).2.2 (ix2 d j) = s.2.2 (ix2 d j) * Ideal.exp2 (s.1 (ix2 0 j) - (upd x vb s).1 (ix2 0 j))
      + ∑ k : Fin 512, vb (ix2 d k) * Ideal.exp2 (x (ix2 k j) - (upd x vb s).1 (ix2 0 j)) := by
  rw [upd_max]
  unfold upd
  dsimp only
  pointwise
  rw [bot_bits]
  rfl

/-- The block's logits, one by one. -/
theorem logits_apply (al : EReal) (q : FVec Ideal S160x512 .fp8e4m3) (cq : FVec Ideal S1x512 .f32) (kb : Vec Ideal S512x160 .fp8e4m3)
    (tb : Vec Ideal S1x512x128 .f32) (k j : Fin 512) :
    logits al q cq kb tb (ix2 k j) = (∑ d : Fin 160, kb (ix2 k d) * q (ix2 d j)) * al
      + (cq (ix2 0 j) - tb (ix3 0 k ⟨j.val % 128, Nat.mod_lt _ (by norm_num)⟩)) := by
  unfold logits
  pointwise [k0_pay22]
  congr 2
  split
  · congr 2
    apply Fin.ext
    simp only []
    omega
  · split
    · congr 2
      apply Fin.ext
      simp only []
      omega
    · split
      · congr 2
        apply Fin.ext
        simp only []
        omega
      · congr 2
        apply Fin.ext
        have := j.isLt
        simp only []
        omega

/-- The diagonal block keeps the keys up to the query. -/
theorem diag_apply (n : Fin 12) (x : FVec Ideal S512x512 .f32) (k j : Fin 512) :
    diag n x (ix2 k j) = if k ≤ j then x (ix2 k j) else ⊥ := by
  unfold diag
  pointwise [k0_pay16]
  have hw : ∀ a : Fin 512, (IntOp.addi (BitVec.ofNat 32 a.val) (Scalar.muli (BitVec.ofNat 32 n.val) 512#32)).toNat = a.val + n.val * 512 := by
    intro a
    have h1 := a.isLt
    have h2 := n.isLt
    simp only [IntOp.addi, Scalar.muli, IntOp.muli, BitVec.toNat_add, BitVec.toNat_mul, BitVec.toNat_ofNat]
    omega
  have h1 := k.isLt
  have h2 := j.isLt
  have h3 := n.isLt
  rw [Idealize.ShloMosaic.WordCmp.cmpi_sle_of_lt (by rw [hw]; omega) (by rw [hw]; omega), hw, hw, bot_bits]
  by_cases h : k ≤ j
  · rw [if_pos h, decide_eq_true (by have := Fin.le_def.mp h; omega)]
    rfl
  · rw [if_neg h, decide_eq_false (by have := fun h' => h (Fin.le_def.mpr h'); omega)]
    rfl

theorem neg_real : ∃ r : ℝ, Ideal.ofBits .f32 0xF149F2CA#32 = (r : EReal) := by
  simp [Ideal.ofBits, Ideal.ieee]
  exact ⟨-(13234890 * 2 ^ 76), by push_cast; rfl⟩

theorem s0_max (j : Fin 512) : s0.1 (ix2 0 j) = Ideal.ofBits .f32 0xF149F2CA#32 := by
  unfold s0
  pointwise [k0_pay11]

theorem s0_den (j : Fin 512) : s0.2.1 (ix2 0 j) = 0 := by
  unfold s0
  pointwise [k0_pay12]

theorem s0_num (d : Fin 160) (j : Fin 512) : s0.2.2 (ix2 d j) = 0 := by
  unfold s0
  pointwise [k0_pay13]

/-- Query `512 n + j`'s logit at key `k` (of head `g`): the scaled score plus the two gates' difference, `-∞` after the query. -/
def X (n : ℕ) (al : EReal) (q : FVec Ideal S160x512 .fp8e4m3) (cq : FVec Ideal S1x512 .f32) (x0 : Vec Ideal S6144x160 .fp8e4m3)
    (x2 : Vec Ideal S4x6144x128 .f32) (g : Fin 4) (j : Fin 512) (k : Fin 6144) : EReal :=
  if k.val ≤ n * 512 + j.val then
    (∑ d : Fin 160, x0 (ix2 k d) * q (ix2 d j)) * al + (cq (ix2 0 j) - x2 (ix3 g k ⟨j.val % 128, Nat.mod_lt _ (by norm_num)⟩))
  else ⊥

/-- The keys of block `m`. -/
def keys (m : ℕ) : Fin 512 ↪ Fin 6144 :=
  ⟨fun j => ⟨(m * 512 + j.val) % 6144, Nat.mod_lt _ (by norm_num)⟩, fun a b h => by
    have h := congrArg Fin.val h
    have h1 := a.isLt
    have h2 := b.isLt
    simp only [] at h
    apply Fin.ext
    omega⟩

theorem mem_keys {m : ℕ} (hm : m < 12) (k : Fin 6144) : k ∈ Finset.univ.map (keys m) ↔ k.val / 512 = m := by
  constructor
  · intro h
    obtain ⟨j, -, rfl⟩ := Finset.mem_map.mp h
    have := j.isLt
    change (m * 512 + j.val) % 6144 / 512 = m
    omega
  · intro h
    refine Finset.mem_map.mpr ⟨⟨k.val % 512, Nat.mod_lt _ (by norm_num)⟩, Finset.mem_univ _, Fin.ext ?_⟩
    change (m * 512 + k.val % 512) % 6144 = k.val
    omega

/-- A step keeps the invariant, the block's keys entering. -/
theorem upd_inv {Y : Fin 6144 → EReal} {M : EReal} (hM : M ≠ ⊥) {S : Finset (Fin 6144)} {m : ℕ} (hm : m < 12)
    (hd : ∀ k ∈ S, k.val / 512 ≠ m) (x1 : Vec Ideal S160x6144 .bf16) (x : FVec Ideal S512x512 .f32) (s : St) (j : Fin 512)
    (hx : ∀ k, x (ix2 k j) = Y (keys m k))
    (h : Inv Y (fun d k => x1 (ix2 d k)) M S (s.1 (ix2 0 j)) (s.2.1 (ix2 0 j)) (fun d : Fin 160 => s.2.2 (ix2 d j))) :
    Inv Y (fun d k => x1 (ix2 d k)) M (S ∪ Finset.univ.map (keys m)) ((upd x (vblk x1 m) s).1 (ix2 0 j))
      ((upd x (vblk x1 m) s).2.1 (ix2 0 j)) (fun d : Fin 160 => (upd x (vblk x1 m) s).2.2 (ix2 d j)) :=
  Inv.step_block hM (keys m)
    (fun k hk => hd _ hk ((mem_keys hm _).mp (Finset.mem_map_of_mem _ (Finset.mem_univ k)))) h hx (fun _ _ => rfl)
    (upd_max x _ s j) (upd_den x _ s j) (fun d => upd_num x _ s d j)

/-- After its blocks, a head's state is the softmax's over all the keys. -/
theorem head_inv (n : Fin 12) (al : EReal) (q : FVec Ideal S160x512 .fp8e4m3) (cq : FVec Ideal S1x512 .f32)
    (x0 : Vec Ideal S6144x160 .fp8e4m3) (x1 : Vec Ideal S160x6144 .bf16) (x2 : Vec Ideal S4x6144x128 .f32) (g : Fin 4) (j : Fin 512) :
    Inv (X n al q cq x0 x2 g j) (fun d k => x1 (ix2 d k)) (Ideal.ofBits .f32 0xF149F2CA#32) Finset.univ
      ((head n al q cq x0 x1 x2 g).1 (ix2 0 j)) ((head n al q cq x0 x1 x2 g).2.1 (ix2 0 j))
      (fun d : Fin 160 => (head n al q cq x0 x1 x2 g).2.2 (ix2 d j)) := by
  have hM : Ideal.ofBits .f32 0xF149F2CA#32 ≠ ⊥ := by
    obtain ⟨r, hr⟩ := neg_real
    rw [hr]
    exact EReal.coe_ne_bot r
  have hn := n.isLt
  have hj := j.isLt
  have key : ∀ t, t ≤ n.val → ∃ S : Finset (Fin 6144), (∀ k : Fin 6144, k ∈ S ↔ k.val / 512 = n.val ∨ k.val / 512 < t) ∧
      Inv (X n al q cq x0 x2 g j) (fun d k => x1 (ix2 d k)) (Ideal.ofBits .f32 0xF149F2CA#32) S
        ((run al q cq x0 x1 x2 g (upd (diag n (logits al q cq (kblk x0 n) (tblk x2 g n))) (vblk x1 n) s0) t).1 (ix2 0 j))
        ((run al q cq x0 x1 x2 g (upd (diag n (logits al q cq (kblk x0 n) (tblk x2 g n))) (vblk x1 n) s0) t).2.1 (ix2 0 j))
        (fun d : Fin 160 => (run al q cq x0 x1 x2 g (upd (diag n (logits al q cq (kblk x0 n) (tblk x2 g n))) (vblk x1 n) s0) t).2.2 (ix2 d j)) := by
    intro t
    induction t with
    | zero =>
      intro _
      refine ⟨∅ ∪ Finset.univ.map (keys n), fun k => ?_, upd_inv hM hn (by simp) x1 _ s0 j (fun k => ?_) ?_⟩
      · rw [Finset.empty_union, mem_keys hn]
        omega
      · rw [diag_apply, logits_apply]
        unfold X
        have hk := k.isLt
        have hv : (keys n.val k).val = n.val * 512 + k.val := Nat.mod_eq_of_lt (by omega)
        by_cases h : k ≤ j
        · rw [if_pos h, if_pos (by have := Fin.le_def.mp h; omega)]
          rfl
        · rw [if_neg h, if_neg (by have := fun h' => h (Fin.le_def.mpr h'); omega)]
      · rw [s0_max, s0_den, show (fun d : Fin 160 => s0.2.2 (ix2 d j)) = fun _ => 0 from funext fun d => s0_num d j]
        exact Inv.init _ _ _
    | succ t ih =>
      intro ht
      obtain ⟨S, hS, h⟩ := ih (by omega)
      refine ⟨S ∪ Finset.univ.map (keys t), fun k => ?_,
        upd_inv hM (by omega) (fun k hk => ?_) x1 (logits al q cq (kblk x0 t) (tblk x2 g t)) _ j (fun k => ?_) h⟩
      · rw [Finset.mem_union, hS, mem_keys (by omega)]
        omega
      · have := (hS k).mp hk
        omega
      · rw [logits_apply]
        unfold X
        have hk := k.isLt
        have hv : (keys t k).val = t * 512 + k.val := Nat.mod_eq_of_lt (by omega)
        rw [if_pos (by omega)]
        rfl
  obtain ⟨S, hS, h⟩ := key n.val le_rfl
  refine Inv.widen (Finset.subset_univ S) (fun k _ hk => ?_) h
  unfold X
  rw [hS] at hk
  rw [if_neg (by omega)]

end Cert.KernelIdeal.Lane
-- ==== Proof.Start.lean ====
module
public import proofs.«01_k».proof.Defs
public import proofs.«01_k».proof.Proof.Gen.KernelIdeal.Value
public import Idealize.ShloMosaic.Lib.Pointwise
public import Idealize.ShloMosaic.Lib.WordCmp
public import proofs.«01_k».proof.Proof.Trips
public import proofs.«01_k».proof.Proof.Lane
@[expose] public section
set_option maxRecDepth 16384
noncomputable section
open Idealize.ShloMosaic Idealize.ShloMosaic.TcCoe Idealize.SL.Sem
namespace Cert.KernelIdeal.Start
open Cert.KernelIdeal Cert.KernelIdeal.Gen Cert.KernelIdeal.Value
open Cert.KernelIdeal.Trips Cert.KernelIdeal.Lane

section
variable (i : grid0.Coords) (sc : EReal) (v9 : Vec Ideal S1x1x160x512 .fp8e4m3) (v11 : Vec Ideal S1x1x1x512 .f32)
  (kb : Vec Ideal S512x160 .fp8e4m3) (tb : Vec Ideal S1x512x128 .f32) (vb : Vec Ideal S160x512 .bf16)

/-- Head 0's state after its diagonal block. -/
theorem start0 :
    ((k0_pay17 (F := Ideal) (BitVec.ofNat 32 (i 2).val) k0_pay11 (k0_pay14 sc v9 v11 kb tb) (iota .tc S512x512 32 [0] iota_S512x512_d0_w32) (k0_pay15 i),
      k0_pay20 (F := Ideal) (BitVec.ofNat 32 (i 2).val) k0_pay11 k0_pay12 (k0_pay14 sc v9 v11 kb tb) (iota .tc S512x512 32 [0] iota_S512x512_d0_w32) (k0_pay15 i),
      k0_pay21 (F := Ideal) (BitVec.ofNat 32 (i 2).val) k0_pay11 k0_pay13 (k0_pay14 sc v9 v11 kb tb) (iota .tc S512x512 32 [0] iota_S512x512_d0_w32) (k0_pay15 i) vb) : St)
      = upd (diag (i 2).val (logits (k0_pay8 (F := Ideal) sc) (k0_pay9 (F := Ideal) v9) (k0_pay10 (F := Ideal) v11) kb tb)) vb s0 := rfl

/-- Head 1's. -/
theorem start1 :
    ((k0_pay45 (F := Ideal) (BitVec.ofNat 32 (i 2).val) (k0_pay37 sc) (k0_pay39 v11) k0_pay40 (k0_pay43 v9 kb) tb,
      k0_pay48 (F := Ideal) (BitVec.ofNat 32 (i 2).val) (k0_pay37 sc) (k0_pay39 v11) k0_pay40 k0_pay41 (k0_pay43 v9 kb) tb,
      k0_pay49 (F := Ideal) (BitVec.ofNat 32 (i 2).val) (k0_pay37 sc) (k0_pay39 v11) k0_pay40 k0_pay42 (k0_pay43 v9 kb) tb vb) : St)
      = upd (diag (i 2).val (logits (k0_pay8 (F := Ideal) sc) (k0_pay9 (F := Ideal) v9) (k0_pay10 (F := Ideal) v11) kb tb)) vb s0 := rfl

/-- Head 2's. -/
theorem start2 :
    ((k0_pay72 (F := Ideal) (BitVec.ofNat 32 (i 2).val) (k0_pay65 sc) (k0_pay66 v9) (k0_pay67 v11) k0_pay68 kb tb,
      k0_pay75 (F := Ideal) (BitVec.ofNat 32 (i 2).val) (k0_pay65 sc) (k0_pay66 v9) (k0_pay67 v11) k0_pay68 k0_pay69 kb tb,
      k0_pay76 (F := Ideal) (BitVec.ofNat 32 (i 2).val) (k0_pay65 sc) (k0_pay66 v9) (k0_pay67 v11) k0_pay68 k0_pay70 kb tb vb) : St)
      = upd (diag (i 2).val (logits (k0_pay8 (F := Ideal) sc) (k0_pay9 (F := Ideal) v9) (k0_pay10 (F := Ideal) v11) kb tb)) vb s0 := rfl

/-- Head 3's. -/
theorem start3 :
    ((k0_pay97 (F := Ideal) (BitVec.ofNat 32 (i 2).val) (k0_pay91 sc) (k0_pay92 v9) v11 kb tb,
      k0_pay100 (F := Ideal) (BitVec.ofNat 32 (i 2).val) (k0_pay91 sc) (k0_pay92 v9) v11 kb tb,
      k0_pay101 (F := Ideal) k0_pay95 (k0_pay98 (BitVec.ofNat 32 (i 2).val) (k0_pay91 sc) (k0_pay92 v9) v11 kb tb) (k0_pay99 (BitVec.ofNat 32 (i 2).val) (k0_pay91 sc) (k0_pay92 v9) v11 kb tb) vb) : St)
      = upd (diag (i 2).val (logits (k0_pay8 (F := Ideal) sc) (k0_pay9 (F := Ideal) v9) (k0_pay10 (F := Ideal) v11) kb tb)) vb s0 := rfl

/-- The heads form their scale factor, queries and gates alike. -/
theorem scale1 : k0_pay37 (F := Ideal) sc = k0_pay8 (F := Ideal) sc := rfl
theorem scale2 : k0_pay65 (F := Ideal) sc = k0_pay8 (F := Ideal) sc := rfl
theorem scale3 : k0_pay91 (F := Ideal) sc = k0_pay8 (F := Ideal) sc := rfl
theorem query1 : k0_pay38 (F := Ideal) v9 = k0_pay9 (F := Ideal) v9 := rfl
theorem query2 : k0_pay66 (F := Ideal) v9 = k0_pay9 (F := Ideal) v9 := rfl
theorem query3 : k0_pay92 (F := Ideal) v9 = k0_pay9 (F := Ideal) v9 := rfl
theorem gate1 : k0_pay39 (F := Ideal) v11 = k0_pay10 (F := Ideal) v11 := rfl
theorem gate2 : k0_pay67 (F := Ideal) v11 = k0_pay10 (F := Ideal) v11 := rfl
theorem gate3 : k0_pay93 (F := Ideal) v11 = k0_pay10 (F := Ideal) v11 := rfl

end

/-- Head `g`'s scale factor at a point: the scale, times `1/√160` and `1/ln 2`. -/
def alOf (x0 : Vec Ideal S2x24 .f32) (i : grid0.Coords) (g : ℕ) : EReal :=
  x0 (ix2 ⟨(i 0).val, (i 0).isLt⟩ ⟨((i 1).val * 4 + g) % 24, Nat.mod_lt _ (by norm_num)⟩) * (((Real.sqrt 160)⁻¹ * (Real.log 2)⁻¹ : ℝ) : EReal)

/-- Head `g`'s queries. -/
def qOf (x1 : Vec Ideal S1x4x160x512 .fp8e4m3) (g : ℕ) : FVec Ideal S160x512 .fp8e4m3 :=
  fun y => x1 (ix4 0 ⟨g % 4, Nat.mod_lt _ (by norm_num)⟩ (y 0) (y 1))

/-- Head `g`'s gates at the queries. -/
def cqOf (x5 : Vec Ideal S1x1x4x512 .f32) (g : ℕ) : FVec Ideal S1x512 .f32 :=
  fun y => x5 (ix4 0 0 ⟨g % 4, Nat.mod_lt _ (by norm_num)⟩ (y 1))

/-- Where a point's scales lie: the row, -/
theorem scale_row : ∀ n : Fin 2, (Scalar.indexCast (BitVec.ofNat 32 n.val)).toNat = n.val := by
  decide +kernel

/-- and the column. -/
theorem scale_col : ∀ n : Fin 6, ∀ g : Fin 4, (Scalar.indexCast (Scalar.addi (Scalar.muli (BitVec.ofNat 32 n.val) 4#32) (BitVec.ofNat 32 g.val))).toNat = (n.val * 4 + g.val) % 24 := by
  decide +kernel

theorem al_read (x0 : Vec Ideal S2x24 .f32) (i : grid0.Coords) (w : BitVec 32) (hw : w.toNat < 4)
    (inb : ∀ a, k0_off1 i w a + (![1, 1] : Fin 2 → ℕ) a ≤ S2x24.size a)
    (h : 0 < (Rect.unit (s := S2x24) (k0_off1 i w) ![1, 1] inb).shape.numel) :
    k0_pay8 (F := Ideal) (View.ld x0 (Rect.unit (k0_off1 i w) ![1, 1] inb) (Shape.Idx.first h))
      = alOf x0 i w.toNat := by
  have h0 := (i 0).isLt
  have h1 := (i 1).isLt
  change (i 0).val < 2 at h0
  change (i 1).val < 6 at h1
  unfold k0_pay8 alOf
  dsimp only
  rw [IdealRules.named_const.ideal_named_scalar _ _ _ _ rfl]
  have e1 : ∀ g : Fin 4, (Scalar.indexCast (Scalar.addi (Scalar.muli (BitVec.ofNat 32 (i 1).val) 4#32) (BitVec.ofNat 32 g.val))).toNat = ((i 1).val * 4 + g.val) % 24 :=
    scale_col ⟨(i 1).val, h1⟩
  have e1 := e1 ⟨w.toNat, hw⟩
  simp only [BitVec.ofNat_toNat, BitVec.setWidth_eq] at e1
  refine congrArg (· * _) (congrArg x0 (funext fun a => Fin.ext ?_))
  match a with
  | 0 => exact (congrArg (· + _) (scale_row ⟨(i 0).val, h0⟩)).trans (by rfl)
  | 1 => exact (congrArg (· + _) e1).trans (by rfl)

theorem q_read (x1 : Vec Ideal S1x4x160x512 .fp8e4m3) (n : ℕ) (inb : ∀ a, (![0, n, 0, 0] : Fin 4 → ℕ) a + (![1, 1, 160, 512] : Fin 4 → ℕ) a ≤ S1x4x160x512.size a) :
    k0_pay9 (F := Ideal) (View.ld x1 (Rect.unit ![0, n, 0, 0] ![1, 1, 160, 512] inb)) = qOf x1 n := by
  have hn : n + 1 ≤ 4 := inb 1
  funext y
  idx_vars y
  unfold qOf
  pointwise [k0_pay9]
  exact congrArg (fun g => x1 (ix4 0 g y0 y1)) (Fin.ext (Nat.mod_eq_of_lt hn).symm)

theorem cq_read (x5 : Vec Ideal S1x1x4x512 .f32) (n : ℕ) (inb : ∀ a, (![0, 0, n, 0] : Fin 4 → ℕ) a + (![1, 1, 1, 512] : Fin 4 → ℕ) a ≤ S1x1x4x512.size a) :
    k0_pay10 (F := Ideal) (View.ld x5 (Rect.unit ![0, 0, n, 0] ![1, 1, 1, 512] inb)) = cqOf x5 n := by
  have hn : n + 1 ≤ 4 := inb 2
  funext y
  idx_vars y
  unfold cqOf
  pointwise [k0_pay10]
  exact congrArg (fun g => x5 (ix4 0 0 g y1)) (Fin.ext (Nat.mod_eq_of_lt hn).symm)

/-- Where the diagonal block lies. -/
theorem diag_off : ∀ n : Fin 12, (Scalar.indexCast (Scalar.muli (BitVec.ofNat 32 n.val) 512#32)).toNat = n.val * 512 := by
  decide +kernel

theorem kb_read (x : Vec Ideal S6144x160 .fp8e4m3) (i : grid0.Coords) (inb : ∀ a, k0_off2 i a + (![512, 160] : Fin 2 → ℕ) a ≤ S6144x160.size a) :
    View.ld x (Rect.unit (k0_off2 i) ![512, 160] inb) = kblk x (i 2).val :=
  ld_kblk x (congrArg (fun n => (![n, 0] : Fin 2 → ℕ)) (diag_off (i 2))) (i 2).isLt inb

theorem vb_read (x : Vec Ideal S160x6144 .bf16) (i : grid0.Coords) (inb : ∀ a, k0_off4 i a + (![160, 512] : Fin 2 → ℕ) a ≤ S160x6144.size a) :
    View.ld x (Rect.unit (k0_off4 i) ![160, 512] inb) = vblk x (i 2).val :=
  ld_vblk x (congrArg (fun n => (![0, n] : Fin 2 → ℕ)) (diag_off (i 2))) (i 2).isLt inb

theorem tb_read0 (x : Vec Ideal S4x6144x128 .f32) (i : grid0.Coords) (inb : ∀ a, k0_off3 i a + (![1, 512, 128] : Fin 3 → ℕ) a ≤ S4x6144x128.size a) :
    View.ld x (Rect.unit (k0_off3 i) ![1, 512, 128] inb) = tblk x 0 (i 2).val :=
  ld_tblk x 0 (congrArg (fun n => (![0, n, 0] : Fin 3 → ℕ)) (diag_off (i 2))) (i 2).isLt inb

theorem tb_read1 (x : Vec Ideal S4x6144x128 .f32) (i : grid0.Coords) (inb : ∀ a, k0_off11 i a + (![1, 512, 128] : Fin 3 → ℕ) a ≤ S4x6144x128.size a) :
    View.ld x (Rect.unit (k0_off11 i) ![1, 512, 128] inb) = tblk x 1 (i 2).val :=
  ld_tblk x 1 (congrArg (fun n => (![1, n, 0] : Fin 3 → ℕ)) (diag_off (i 2))) (i 2).isLt inb

theorem tb_read2 (x : Vec Ideal S4x6144x128 .f32) (i : grid0.Coords) (inb : ∀ a, k0_off18 i a + (![1, 512, 128] : Fin 3 → ℕ) a ≤ S4x6144x128.size a) :
    View.ld x (Rect.unit (k0_off18 i) ![1, 512, 128] inb) = tblk x 2 (i 2).val :=
  ld_tblk x 2 (congrArg (fun n => (![2, n, 0] : Fin 3 → ℕ)) (diag_off (i 2))) (i 2).isLt inb

theorem tb_read3 (x : Vec Ideal S4x6144x128 .f32) (i : grid0.Coords) (inb : ∀ a, k0_off25 i a + (![1, 512, 128] : Fin 3 → ℕ) a ≤ S4x6144x128.size a) :
    View.ld x (Rect.unit (k0_off25 i) ![1, 512, 128] inb) = tblk x 3 (i 2).val :=
  ld_tblk x 3 (congrArg (fun n => (![3, n, 0] : Fin 3 → ℕ)) (diag_off (i 2))) (i 2).isLt inb

/-- Head `g`'s state at the end of a point. -/
def state (i : grid0.Coords) (x0 : Vec Ideal S2x24 .f32) (x1 : Vec Ideal S1x4x160x512 .fp8e4m3) (x5 : Vec Ideal S1x1x4x512 .f32)
    (k : Vec Ideal S6144x160 .fp8e4m3) (v : Vec Ideal S160x6144 .bf16) (t : Vec Ideal S4x6144x128 .f32) (g : Fin 4) : St :=
  head (i 2).val (alOf x0 i g.val) (qOf x1 g.val) (cqOf x5 g.val) k v t g

theorem state0 (i : grid0.Coords) (x0 : Vec Ideal S2x24 .f32) (x1 : Vec Ideal S1x4x160x512 .fp8e4m3) (x5 : Vec Ideal S1x1x4x512 .f32)
    (k : Vec Ideal S6144x160 .fp8e4m3) (v : Vec Ideal S160x6144 .bf16) (t : Vec Ideal S4x6144x128 .f32) :
    run (alOf x0 i (0#32).toNat) (qOf x1 0) (cqOf x5 0) k v t 0
      (upd (diag (i 2).val (logits (alOf x0 i (0#32).toNat) (qOf x1 0) (cqOf x5 0) (kblk k (i 2).val) (tblk t 0 (i 2).val))) (vblk v (i 2).val) s0) (i 2).val
      = state i x0 x1 x5 k v t 0 := rfl

theorem state1 (i : grid0.Coords) (x0 : Vec Ideal S2x24 .f32) (x1 : Vec Ideal S1x4x160x512 .fp8e4m3) (x5 : Vec Ideal S1x1x4x512 .f32)
    (k : Vec Ideal S6144x160 .fp8e4m3) (v : Vec Ideal S160x6144 .bf16) (t : Vec Ideal S4x6144x128 .f32) :
    run (alOf x0 i (1#32).toNat) (qOf x1 1) (cqOf x5 1) k v t 1
      (upd (diag (i 2).val (logits (alOf x0 i (1#32).toNat) (qOf x1 1) (cqOf x5 1) (kblk k (i 2).val) (tblk t 1 (i 2).val))) (vblk v (i 2).val) s0) (i 2).val
      = state i x0 x1 x5 k v t 1 := rfl

theorem state2 (i : grid0.Coords) (x0 : Vec Ideal S2x24 .f32) (x1 : Vec Ideal S1x4x160x512 .fp8e4m3) (x5 : Vec Ideal S1x1x4x512 .f32)
    (k : Vec Ideal S6144x160 .fp8e4m3) (v : Vec Ideal S160x6144 .bf16) (t : Vec Ideal S4x6144x128 .f32) :
    run (alOf x0 i (2#32).toNat) (qOf x1 2) (cqOf x5 2) k v t 2
      (upd (diag (i 2).val (logits (alOf x0 i (2#32).toNat) (qOf x1 2) (cqOf x5 2) (kblk k (i 2).val) (tblk t 2 (i 2).val))) (vblk v (i 2).val) s0) (i 2).val
      = state i x0 x1 x5 k v t 2 := rfl

theorem state3 (i : grid0.Coords) (x0 : Vec Ideal S2x24 .f32) (x1 : Vec Ideal S1x4x160x512 .fp8e4m3) (x5 : Vec Ideal S1x1x4x512 .f32)
    (k : Vec Ideal S6144x160 .fp8e4m3) (v : Vec Ideal S160x6144 .bf16) (t : Vec Ideal S4x6144x128 .f32) :
    run (alOf x0 i (3#32).toNat) (qOf x1 3) (cqOf x5 3) k v t 3
      (upd (diag (i 2).val (logits (alOf x0 i (3#32).toNat) (qOf x1 3) (cqOf x5 3) (kblk k (i 2).val) (tblk t 3 (i 2).val))) (vblk v (i 2).val) s0) (i 2).val
      = state i x0 x1 x5 k v t 3 := rfl

/-- What a head stores of its state: the log-sum-exp, -/
def lseRow (s : St) : FVec Ideal S1x1x1x512 .f32 := k0_pay114 (F := Ideal) s.1 s.2.1

/-- and the normalised, scaled numerators. -/
def oRow (s : St) (vs : Vec Ideal S1x1x160x1 .f32) : FVec Ideal S160x512 .f32 := k0_pay115 (F := Ideal) s.2.1 s.2.2 vs

section
variable (s : St) (vs : Vec Ideal S1x1x160x1 .f32)
theorem lse0 : k0_pay35 (F := Ideal) (k0_pay34 s.1 s.2.1) = lseRow s := rfl
theorem lse1 : k0_pay63 (F := Ideal) s.1 (k0_pay62 s.2.1) (Named.named κ "log2e" 0x3FB8AA3B#32) = lseRow s := rfl
theorem lse2 : k0_pay89 (F := Ideal) s.1 s.2.1 = lseRow s := rfl
theorem lse3 : k0_pay114 (F := Ideal) s.1 s.2.1 = lseRow s := rfl
theorem o0 : k0_pay36 (F := Ideal) s.2.1 s.2.2 vs = oRow s vs := rfl
theorem o1 : k0_pay64 (F := Ideal) s.2.1 s.2.2 vs = oRow s vs := rfl
theorem o2 : k0_pay90 (F := Ideal) s.2.1 s.2.2 vs = oRow s vs := rfl
theorem o3 : k0_pay115 (F := Ideal) s.2.1 s.2.2 vs = oRow s vs := rfl
end

end Cert.KernelIdeal.Start
-- ==== Proof.Block.lean ====
module
public import proofs.«01_k».proof.Defs
public import proofs.«01_k».proof.Proof.Gen.KernelIdeal.Value
public import Idealize.ShloMosaic.Lib.Pointwise
public import Idealize.ShloMosaic.Lib.WordCmp
public import Idealize.ShloMosaic.Lib.Pipeline.ValueKit.Basic
public import proofs.«01_k».proof.Proof.Trips
public import proofs.«01_k».proof.Proof.Start
@[expose] public section
set_option maxRecDepth 16384
noncomputable section
open Idealize.ShloMosaic Idealize.ShloMosaic.TcCoe Idealize.SL.Sem
namespace Cert.KernelIdeal.Block
open Cert.KernelIdeal Cert.KernelIdeal.Gen Cert.KernelIdeal.Value
open Cert.KernelIdeal.Trips Cert.KernelIdeal.Lane Cert.KernelIdeal.Start

/-- Four stores of equal size: where store `g` alone reaches, what it put there is found. -/
theorem canon4 {s : Shape} {e : EltTy} (size : Fin s.rank → ℕ) (off : Fin 4 → Fin s.rank → ℕ) (inb : ∀ g a, off g a + size a ≤ s.size a)
    (f : ∀ g : Fin 4, (Rect.unit (off g) size (inb g)).shape.Idx → Elt Ideal e) (y : s.Idx) (g : Fin 4) (x : (Rect.unit (off g) size (inb g)).shape.Idx)
    (hon : y = (Rect.unit (off g) size (inb g)).emb x) (hoff : ∀ m, m ≠ g → y ∉ (Rect.unit (off m) size (inb m)).set) :
    View.canon (Val := Elt Ideal) (e := e) [⟨Rect.unit (off 3) size (inb 3), f 3⟩, ⟨Rect.unit (off 2) size (inb 2), f 2⟩,
      ⟨Rect.unit (off 1) size (inb 1), f 1⟩, ⟨Rect.unit (off 0) size (inb 0), f 0⟩] y = f g x := by
  have h4 : ∀ g : Fin 4, g = 3 ∨ g = 2 ∨ g = 1 ∨ g = 0 := by decide
  rcases h4 g with h | h | h | h
  · subst h
    rw [hon, View.canon_cons_emb]
  · subst h
    rw [View.canon_cons_of_not_mem _ _ (by exact hoff 3 (by decide)), hon, View.canon_cons_emb]
  · subst h
    rw [View.canon_cons_of_not_mem _ _ (by exact hoff 3 (by decide)), View.canon_cons_of_not_mem _ _ (by exact hoff 2 (by decide)), hon, View.canon_cons_emb]
  · subst h
    rw [View.canon_cons_of_not_mem _ _ (by exact hoff 3 (by decide)), View.canon_cons_of_not_mem _ _ (by exact hoff 2 (by decide)),
      View.canon_cons_of_not_mem _ _ (by exact hoff 1 (by decide)), hon, View.canon_cons_emb]

/-- Four stores of a row each: row `g` holds what store `g` put there. -/
theorem canon_rows (f : Fin 4 → FVec Ideal S1x1x1x512 .f32) (inb3 inb2 inb1 inb0) (g : Fin 4) (j : Fin 512) :
    View.canon (Val := Elt Ideal) (e := .f32) [⟨Rect.unit (s := S1x1x4x512) ![0, 0, 3, 0] ![1, 1, 1, 512] inb3, f 3⟩, ⟨Rect.unit (s := S1x1x4x512) ![0, 0, 2, 0] ![1, 1, 1, 512] inb2, f 2⟩,
      ⟨Rect.unit (s := S1x1x4x512) ![0, 0, 1, 0] ![1, 1, 1, 512] inb1, f 1⟩, ⟨Rect.unit (s := S1x1x4x512) ![0, 0, 0, 0] ![1, 1, 1, 512] inb0, f 0⟩] (ix4 0 0 g j) = f g (ix4 0 0 0 j) := by
  have inb : ∀ (g : Fin 4) a, (![0, 0, g.val, 0] : Fin 4 → ℕ) a + (![1, 1, 1, 512] : Fin 4 → ℕ) a ≤ S1x1x4x512.size a := by decide
  refine canon4 (s := S1x1x4x512) (e := .f32) ![1, 1, 1, 512] (fun g => ![0, 0, g.val, 0]) inb f (ix4 0 0 g j) g (ix4 0 0 0 j) ?_ ?_
  · funext a
    apply Fin.ext
    match a with
    | 0 => rfl
    | 1 => rfl
    | 2 => rfl
    | 3 => exact (Nat.zero_add _).symm.trans (congrArg (0 + ·) (Nat.one_mul _).symm)
  · intro m hm h
    have h2 := Rect.mem_set_unit.mp h 2
    change m.val ≤ g.val ∧ g.val < m.val + 1 at h2
    exact hm (Fin.ext (by omega))

/-- Four stores of 160 rows each: row `g * 160 + d` holds row `d` of what store `g` put there. -/
theorem canon_blocks (f : Fin 4 → FVec Ideal S160x512 .f32) (inb3 inb2 inb1 inb0) (g : Fin 4) (d : Fin 160) (j : Fin 512) :
    View.canon (Val := Elt Ideal) (e := .f32) [⟨Rect.unit (s := S640x512) ![480, 0] ![160, 512] inb3, f 3⟩, ⟨Rect.unit (s := S640x512) ![320, 0] ![160, 512] inb2, f 2⟩,
      ⟨Rect.unit (s := S640x512) ![160, 0] ![160, 512] inb1, f 1⟩, ⟨Rect.unit (s := S640x512) ![0, 0] ![160, 512] inb0, f 0⟩] (ix2 ⟨g.val * 160 + d.val, by omega⟩ j) = f g (ix2 d j) := by
  have inb : ∀ (g : Fin 4) a, (![g.val * 160, 0] : Fin 2 → ℕ) a + (![160, 512] : Fin 2 → ℕ) a ≤ S640x512.size a := by decide
  refine canon4 (s := S640x512) (e := .f32) ![160, 512] (fun g => ![g.val * 160, 0]) inb f (ix2 ⟨g.val * 160 + d.val, by omega⟩ j) g (ix2 d j) ?_ ?_
  · funext a
    apply Fin.ext
    match a with
    | 0 => exact congrArg (g.val * 160 + ·) (Nat.one_mul _).symm
    | 1 => exact (Nat.zero_add _).symm.trans (congrArg (0 + ·) (Nat.one_mul _).symm)
  · intro m hm h
    have h2 := Rect.mem_set_unit.mp h 0
    change m.val * 160 ≤ g.val * 160 + d.val ∧ g.val * 160 + d.val < m.val * 160 + 160 at h2
    exact hm (Fin.ext (by omega))

/-- The keys as the first point of a group lays them out: transposed. -/
def kOf (x2 : Vec Ideal S1x1x160x6144 .fp8e4m3) : Vec Ideal S6144x160 .fp8e4m3 := fun y => x2 (ix4 0 0 (y 1) (y 0))

/-- The values. -/
def vOf (x3 : Vec Ideal S1x1x160x6144 .fp8e4m3) : Vec Ideal S160x6144 .bf16 := fun y => x3 (ix4 0 0 (y 0) (y 1))

/-- The keys' gates, repeated along the lanes. -/
def tOf (x6 : Vec Ideal S1x1x6144x4 .f32) : Vec Ideal S4x6144x128 .f32 := fun y => x6 (ix4 0 0 (y 1) (y 0))

/-- A load of a whole block of codes is the block. -/
theorem ld_codes (x : Vec Ideal S1x1x160x6144 .fp8e4m3) (inb : ∀ a, (![0, 0, 0, 0] : Fin 4 → ℕ) a + (![1, 1, 160, 6144] : Fin 4 → ℕ) a ≤ S1x1x160x6144.size a) :
    View.ld x (Rect.unit (s := S1x1x160x6144) ![0, 0, 0, 0] ![1, 1, 160, 6144] inb) = x := View.ld_unit_lit _ _ (by decide)

/-- What the first point of a group stores: the keys, -/
theorem k_stored (x2 : Vec Ideal S1x1x160x6144 .fp8e4m3) (inb) :
    View.canon (Val := Elt Ideal) (e := .fp8e4m3) [⟨Rect.unit (s := S6144x160) ![0, 0] ![6144, 160] inb, shapeCast S6144x160 (truncf (F := Ideal) .fp8e4m3 (transpose S6144x160 [1, 0] (extf .bf16 (shapeCast S160x6144 x2 shapeCasts_S1x1x160x6144_S160x6144) bitsLt_fp8e4m3_bf16) transposes_S160x6144_p1_0_S6144x160) bitsLt_fp8e4m3_bf16) shapeCasts_S6144x160_S6144x160⟩] = kOf x2 := by
  refine (View.canon_cons_unit_lit _ _ _ (by decide)).trans ?_
  funext y
  idx_vars y
  pointwise []
  rfl

/-- the values, -/
theorem v_stored (x3 : Vec Ideal S1x1x160x6144 .fp8e4m3) (inb) :
    View.canon (Val := Elt Ideal) (e := .bf16) [⟨Rect.unit (s := S160x6144) ![0, 0] ![160, 6144] inb, shapeCast S160x6144 (extf (F := Ideal) .bf16 (shapeCast S160x6144 x3 shapeCasts_S1x1x160x6144_S160x6144) bitsLt_fp8e4m3_bf16) shapeCasts_S160x6144_S160x6144⟩] = vOf x3 := by
  refine (View.canon_cons_unit_lit _ _ _ (by decide)).trans ?_
  funext y
  idx_vars y
  pointwise []
  rfl

/-- and the gates. -/
theorem t_stored (x6 : Vec Ideal S1x1x6144x4 .f32) (inb3 inb2 inb1 inb0 inb3' inb2' inb1' inb0') :
    View.canon (Val := Elt Ideal) (e := .f32) [⟨Rect.unit (s := S4x6144x128) ![3, 0, 0] ![1, 6144, 128] inb3, k0_pay7 (F := Ideal) (View.ld x6 (Rect.unit ![0, 0, 0, 3] ![1, 1, 6144, 1] inb3'))⟩,
      ⟨Rect.unit (s := S4x6144x128) ![2, 0, 0] ![1, 6144, 128] inb2, k0_pay6 (F := Ideal) (View.ld x6 (Rect.unit ![0, 0, 0, 2] ![1, 1, 6144, 1] inb2'))⟩,
      ⟨Rect.unit (s := S4x6144x128) ![1, 0, 0] ![1, 6144, 128] inb1, shapeCast S1x6144x128 (broadcastTo S6144x128 (shapeCast S6144x1 (shapeCast S6144x1 (View.ld x6 (Rect.unit ![0, 0, 0, 1] ![1, 1, 6144, 1] inb1')) shapeCasts_S1x1x6144x1_S6144x1) shapeCasts_S6144x1_S6144x1) broadcasts_S6144x1_S6144x128) shapeCasts_S6144x128_S1x6144x128⟩,
      ⟨Rect.unit (s := S4x6144x128) ![0, 0, 0] ![1, 6144, 128] inb0, shapeCast S1x6144x128 (broadcastTo S6144x128 (shapeCast S6144x1 (shapeCast S6144x1 (View.ld x6 (Rect.unit ![0, 0, 0, 0] ![1, 1, 6144, 1] inb0')) shapeCasts_S1x1x6144x1_S6144x1) shapeCasts_S6144x1_S6144x1) broadcasts_S6144x1_S6144x128) shapeCasts_S6144x128_S1x6144x128⟩] = tOf x6 := by
  have inb : ∀ (g : Fin 4) a, (![g.val, 0, 0] : Fin 3 → ℕ) a + (![1, 6144, 128] : Fin 3 → ℕ) a ≤ S4x6144x128.size a := by decide
  have inb' : ∀ (g : Fin 4) a, (![0, 0, 0, g.val] : Fin 4 → ℕ) a + (![1, 1, 6144, 1] : Fin 4 → ℕ) a ≤ S1x1x6144x4.size a := by decide
  funext y
  idx_vars y
  refine (canon4 (s := S4x6144x128) (e := .f32) ![1, 6144, 128] (fun g => ![g.val, 0, 0]) inb
    (fun g => k0_pay4 (F := Ideal) (View.ld x6 (Rect.unit ![0, 0, 0, g.val] ![1, 1, 6144, 1] (inb' g)))) (ix3 y0 y1 y2) y0 (ix3 0 y1 y2) ?_ ?_).trans ?_
  · funext a
    apply Fin.ext
    match a with
    | 0 => rfl
    | 1 => exact (Nat.zero_add _).symm.trans (congrArg (0 + ·) (Nat.one_mul _).symm)
    | 2 => exact (Nat.zero_add _).symm.trans (congrArg (0 + ·) (Nat.one_mul _).symm)
  · intro m hm h
    have h2 := Rect.mem_set_unit.mp h 0
    change m.val ≤ y0.val ∧ y0.val < m.val + 1 at h2
    exact hm (Fin.ext (by omega))
  · pointwise [k0_pay4]
    rfl

/-- A later point of a group leaves head `g`'s log-sum-exp. -/
theorem opB8 (c : Dev nD) (i : grid0.Coords) (arg3 : Memref sig .tc .smem S2x24 .f32) (harg3 : arg3.IsWhole) (arg4 : Memref sig .tc .vmem S1x4x160x512 .fp8e4m3) (harg4 : arg4.IsWhole) (arg5 : Memref sig .tc .vmem S1x1x160x6144 .fp8e4m3) (harg5 : arg5.IsWhole) (arg6 : Memref sig .tc .vmem S1x1x160x6144 .fp8e4m3) (harg6 : arg6.IsWhole) (arg7 : Memref sig .tc .vmem S1x1x160x1 .f32) (harg7 : arg7.IsWhole) (arg8 : Memref sig .tc .vmem S1x1x4x512 .f32) (harg8 : arg8.IsWhole) (arg9 : Memref sig .tc .vmem S1x1x6144x4 .f32) (harg9 : arg9.IsWhole) (arg10 : Memref sig .tc .vmem S1x512x640 .bf16) (harg10 : arg10.IsWhole) (arg11 : Memref sig .tc .vmem S1x1x4x512 .f32) (harg11 : arg11.IsWhole) (arg12 : Memref sig .tc .vmem S6144x160 .fp8e4m3) (harg12 : arg12.IsWhole) (arg13 : Memref sig .tc .vmem S160x6144 .bf16) (harg13 : arg13.IsWhole) (arg14 : Memref sig .tc .vmem S4x6144x128 .f32) (harg14 : arg14.IsWhole) (arg15 : Memref sig .tc .vmem S640x512 .f32) (harg15 : arg15.IsWhole) (hc0 : ¬cond0_0 i) (x0 : Vec Ideal S2x24 .f32) (x1 : Vec Ideal S1x4x160x512 .fp8e4m3) (x2 : Vec Ideal S1x1x160x6144 .fp8e4m3) (x3 : Vec Ideal S1x1x160x6144 .fp8e4m3) (x4 : Vec Ideal S1x1x160x1 .f32) (x5 : Vec Ideal S1x1x4x512 .f32) (x6 : Vec Ideal S1x1x6144x4 .f32) (xs0 : Vec Ideal S6144x160 .fp8e4m3) (xs1 : Vec Ideal S160x6144 .bf16) (xs2 : Vec Ideal S4x6144x128 .f32) (g : Fin 4) (j : Fin 512) :
    out0_B_8 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 xs1 xs2 (ix4 0 0 g j) = lseRow (state i x0 x1 x5 xs0 xs1 xs2 g) (ix4 0 0 0 j) := by
  unfold out0_B_8
  simp only [View.read_writes_junk_eq_canon]
  unfold kernelRun0_B
  dsimp only
  sl_unfold_run_names
  simp only [loop1, loop3, loop5, loop7, View.readAt_eq_ld, Memref.IsWhole.read_unread, View.read_writes_junk_eq_canon, ld_codes]
  simp only [start1, start2, start3]
  rw [start0]
  simp only [scale1, scale2, scale3, query1, query2, query3, gate1, gate2, gate3, q_read, cq_read, kb_read, tb_read0, tb_read1, tb_read2, tb_read3, vb_read, al_read _ _ 0#32 (by decide), al_read _ _ 1#32 (by decide), al_read _ _ 2#32 (by decide), al_read _ _ 3#32 (by decide), state0, state1, state2, state3, lse0, lse1, lse2, lse3, o0, o1, o2, o3]
  exact canon_rows (fun g => lseRow (state i x0 x1 x5 xs0 xs1 xs2 g)) _ _ _ _ g j

/-- The first point of a group leaves head `g`'s log-sum-exp. -/
theorem opA8 (c : Dev nD) (i : grid0.Coords) (arg3 : Memref sig .tc .smem S2x24 .f32) (harg3 : arg3.IsWhole) (arg4 : Memref sig .tc .vmem S1x4x160x512 .fp8e4m3) (harg4 : arg4.IsWhole) (arg5 : Memref sig .tc .vmem S1x1x160x6144 .fp8e4m3) (harg5 : arg5.IsWhole) (arg6 : Memref sig .tc .vmem S1x1x160x6144 .fp8e4m3) (harg6 : arg6.IsWhole) (arg7 : Memref sig .tc .vmem S1x1x160x1 .f32) (harg7 : arg7.IsWhole) (arg8 : Memref sig .tc .vmem S1x1x4x512 .f32) (harg8 : arg8.IsWhole) (arg9 : Memref sig .tc .vmem S1x1x6144x4 .f32) (harg9 : arg9.IsWhole) (arg10 : Memref sig .tc .vmem S1x512x640 .bf16) (harg10 : arg10.IsWhole) (arg11 : Memref sig .tc .vmem S1x1x4x512 .f32) (harg11 : arg11.IsWhole) (arg12 : Memref sig .tc .vmem S6144x160 .fp8e4m3) (harg12 : arg12.IsWhole) (arg13 : Memref sig .tc .vmem S160x6144 .bf16) (harg13 : arg13.IsWhole) (arg14 : Memref sig .tc .vmem S4x6144x128 .f32) (harg14 : arg14.IsWhole) (arg15 : Memref sig .tc .vmem S640x512 .f32) (harg15 : arg15.IsWhole) (hc0 : cond0_0 i) (x0 : Vec Ideal S2x24 .f32) (x1 : Vec Ideal S1x4x160x512 .fp8e4m3) (x2 : Vec Ideal S1x1x160x6144 .fp8e4m3) (x3 : Vec Ideal S1x1x160x6144 .fp8e4m3) (x4 : Vec Ideal S1x1x160x1 .f32) (x5 : Vec Ideal S1x1x4x512 .f32) (x6 : Vec Ideal S1x1x6144x4 .f32)  (g : Fin 4) (j : Fin 512) :
    out0_A_8 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 (ix4 0 0 g j) = lseRow (state i x0 x1 x5 (kOf x2) (vOf x3) (tOf x6) g) (ix4 0 0 0 j) := by
  unfold out0_A_8
  simp only [View.read_writes_junk_eq_canon]
  unfold kernelRun0_A
  dsimp only
  sl_unfold_run_names
  simp only [loop1, loop3, loop5, loop7, View.readAt_eq_ld, Memref.IsWhole.read_unread, View.read_writes_junk_eq_canon, ld_codes]
  simp only [start1, start2, start3]
  rw [start0]
  simp only [scale1, scale2, scale3, query1, query2, query3, gate1, gate2, gate3, q_read, cq_read, kb_read, tb_read0, tb_read1, tb_read2, tb_read3, vb_read, al_read _ _ 0#32 (by decide), al_read _ _ 1#32 (by decide), al_read _ _ 2#32 (by decide), al_read _ _ 3#32 (by decide), state0, state1, state2, state3, lse0, lse1, lse2, lse3, o0, o1, o2, o3]
  generalize hk : View.canon (Val := Elt Ideal) (s := S6144x160) (e := .fp8e4m3) _ = K
  replace hk := hk.symm.trans (k_stored x2 _)
  generalize hv : View.canon (Val := Elt Ideal) (s := S160x6144) (e := .bf16) _ = V
  replace hv := hv.symm.trans (v_stored x3 _)
  generalize ht : View.canon (Val := Elt Ideal) (s := S4x6144x128) (e := .f32) _ = T
  replace ht := ht.symm.trans (t_stored x6 _ _ _ _ _ _ _ _)
  subst hk hv ht
  exact canon_rows (fun g => lseRow (state i x0 x1 x5 (kOf x2) (vOf x3) (tOf x6) g)) _ _ _ _ g j

/-- A later point of a group leaves head `g`'s output. -/
theorem opB7 (c : Dev nD) (i : grid0.Coords) (arg3 : Memref sig .tc .smem S2x24 .f32) (harg3 : arg3.IsWhole) (arg4 : Memref sig .tc .vmem S1x4x160x512 .fp8e4m3) (harg4 : arg4.IsWhole) (arg5 : Memref sig .tc .vmem S1x1x160x6144 .fp8e4m3) (harg5 : arg5.IsWhole) (arg6 : Memref sig .tc .vmem S1x1x160x6144 .fp8e4m3) (harg6 : arg6.IsWhole) (arg7 : Memref sig .tc .vmem S1x1x160x1 .f32) (harg7 : arg7.IsWhole) (arg8 : Memref sig .tc .vmem S1x1x4x512 .f32) (harg8 : arg8.IsWhole) (arg9 : Memref sig .tc .vmem S1x1x6144x4 .f32) (harg9 : arg9.IsWhole) (arg10 : Memref sig .tc .vmem S1x512x640 .bf16) (harg10 : arg10.IsWhole) (arg11 : Memref sig .tc .vmem S1x1x4x512 .f32) (harg11 : arg11.IsWhole) (arg12 : Memref sig .tc .vmem S6144x160 .fp8e4m3) (harg12 : arg12.IsWhole) (arg13 : Memref sig .tc .vmem S160x6144 .bf16) (harg13 : arg13.IsWhole) (arg14 : Memref sig .tc .vmem S4x6144x128 .f32) (harg14 : arg14.IsWhole) (arg15 : Memref sig .tc .vmem S640x512 .f32) (harg15 : arg15.IsWhole) (hc0 : ¬cond0_0 i) (x0 : Vec Ideal S2x24 .f32) (x1 : Vec Ideal S1x4x160x512 .fp8e4m3) (x2 : Vec Ideal S1x1x160x6144 .fp8e4m3) (x3 : Vec Ideal S1x1x160x6144 .fp8e4m3) (x4 : Vec Ideal S1x1x160x1 .f32) (x5 : Vec Ideal S1x1x4x512 .f32) (x6 : Vec Ideal S1x1x6144x4 .f32) (xs0 : Vec Ideal S6144x160 .fp8e4m3) (xs1 : Vec Ideal S160x6144 .bf16) (xs2 : Vec Ideal S4x6144x128 .f32) (g : Fin 4) (d : Fin 160) (j : Fin 512) :
    out0_B_7 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 xs1 xs2 (ix3 0 j ⟨g.val * 160 + d.val, by omega⟩) = oRow (state i x0 x1 x5 xs0 xs1 xs2 g) x4 (ix2 d j) := by
  unfold out0_B_7
  simp only [View.read_writes_junk_eq_canon]
  unfold kernelRun0_B
  dsimp only
  sl_unfold_run_names
  simp only [loop1, loop3, loop5, loop7, View.readAt_eq_ld, Memref.IsWhole.read_unread, View.read_writes_junk_eq_canon, ld_codes]
  simp only [start1, start2, start3]
  rw [start0]
  simp only [scale1, scale2, scale3, query1, query2, query3, gate1, gate2, gate3, q_read, cq_read, kb_read, tb_read0, tb_read1, tb_read2, tb_read3, vb_read, al_read _ _ 0#32 (by decide), al_read _ _ 1#32 (by decide), al_read _ _ 2#32 (by decide), al_read _ _ 3#32 (by decide), state0, state1, state2, state3, lse0, lse1, lse2, lse3, o0, o1, o2, o3]
  have hv : View.ld x4 (Rect.unit ![0, 0, 0, 0] ![1, 1, 160, 1] inb_S1x1x160x1_S1x1x160x1_0_0_0_0) = x4 := View.ld_unit_lit _ _ (by decide)
  rw [hv]
  refine (congrFun (View.canon_cons_unit_lit _ _ _ (by decide)) _).trans ?_
  pointwise [k0_pay1]
  rw [View.readCov_eq_canon']
  refine Eq.trans (congrArg _ ?_) (canon_blocks (fun g => oRow (state i x0 x1 x5 xs0 xs1 xs2 g) x4) inb_S640x512_S160x512_480_0 inb_S640x512_S160x512_320_0 inb_S640x512_S160x512_160_0 inb_S640x512_S160x512_0_0 g d j)
  funext a
  apply Fin.ext
  match a with
  | 0 => exact (Nat.zero_add _).trans (Nat.one_mul _)
  | 1 => exact (Nat.zero_add _).trans (Nat.one_mul _)

/-- The first point of a group leaves head `g`'s output. -/
theorem opA7 (c : Dev nD) (i : grid0.Coords) (arg3 : Memref sig .tc .smem S2x24 .f32) (harg3 : arg3.IsWhole) (arg4 : Memref sig .tc .vmem S1x4x160x512 .fp8e4m3) (harg4 : arg4.IsWhole) (arg5 : Memref sig .tc .vmem S1x1x160x6144 .fp8e4m3) (harg5 : arg5.IsWhole) (arg6 : Memref sig .tc .vmem S1x1x160x6144 .fp8e4m3) (harg6 : arg6.IsWhole) (arg7 : Memref sig .tc .vmem S1x1x160x1 .f32) (harg7 : arg7.IsWhole) (arg8 : Memref sig .tc .vmem S1x1x4x512 .f32) (harg8 : arg8.IsWhole) (arg9 : Memref sig .tc .vmem S1x1x6144x4 .f32) (harg9 : arg9.IsWhole) (arg10 : Memref sig .tc .vmem S1x512x640 .bf16) (harg10 : arg10.IsWhole) (arg11 : Memref sig .tc .vmem S1x1x4x512 .f32) (harg11 : arg11.IsWhole) (arg12 : Memref sig .tc .vmem S6144x160 .fp8e4m3) (harg12 : arg12.IsWhole) (arg13 : Memref sig .tc .vmem S160x6144 .bf16) (harg13 : arg13.IsWhole) (arg14 : Memref sig .tc .vmem S4x6144x128 .f32) (harg14 : arg14.IsWhole) (arg15 : Memref sig .tc .vmem S640x512 .f32) (harg15 : arg15.IsWhole) (hc0 : cond0_0 i) (x0 : Vec Ideal S2x24 .f32) (x1 : Vec Ideal S1x4x160x512 .fp8e4m3) (x2 : Vec Ideal S1x1x160x6144 .fp8e4m3) (x3 : Vec Ideal S1x1x160x6144 .fp8e4m3) (x4 : Vec Ideal S1x1x160x1 .f32) (x5 : Vec Ideal S1x1x4x512 .f32) (x6 : Vec Ideal S1x1x6144x4 .f32)  (g : Fin 4) (d : Fin 160) (j : Fin 512) :
    out0_A_7 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 (ix3 0 j ⟨g.val * 160 + d.val, by omega⟩) = oRow (state i x0 x1 x5 (kOf x2) (vOf x3) (tOf x6) g) x4 (ix2 d j) := by
  unfold out0_A_7
  simp only [View.read_writes_junk_eq_canon]
  unfold kernelRun0_A
  dsimp only
  sl_unfold_run_names
  simp only [loop1, loop3, loop5, loop7, View.readAt_eq_ld, Memref.IsWhole.read_unread, View.read_writes_junk_eq_canon, ld_codes]
  simp only [start1, start2, start3]
  rw [start0]
  simp only [scale1, scale2, scale3, query1, query2, query3, gate1, gate2, gate3, q_read, cq_read, kb_read, tb_read0, tb_read1, tb_read2, tb_read3, vb_read, al_read _ _ 0#32 (by decide), al_read _ _ 1#32 (by decide), al_read _ _ 2#32 (by decide), al_read _ _ 3#32 (by decide), state0, state1, state2, state3, lse0, lse1, lse2, lse3, o0, o1, o2, o3]
  generalize hk : View.canon (Val := Elt Ideal) (s := S6144x160) (e := .fp8e4m3) _ = K
  replace hk := hk.symm.trans (k_stored x2 _)
  generalize hv : View.canon (Val := Elt Ideal) (s := S160x6144) (e := .bf16) _ = V
  replace hv := hv.symm.trans (v_stored x3 _)
  generalize ht : View.canon (Val := Elt Ideal) (s := S4x6144x128) (e := .f32) _ = T
  replace ht := ht.symm.trans (t_stored x6 _ _ _ _ _ _ _ _)
  subst hk hv ht
  have hv : View.ld x4 (Rect.unit ![0, 0, 0, 0] ![1, 1, 160, 1] inb_S1x1x160x1_S1x1x160x1_0_0_0_0) = x4 := View.ld_unit_lit _ _ (by decide)
  rw [hv]
  refine (congrFun (View.canon_cons_unit_lit _ _ _ (by decide)) _).trans ?_
  pointwise [k0_pay1]
  rw [View.readCov_eq_canon']
  refine Eq.trans (congrArg _ ?_) (canon_blocks (fun g => oRow (state i x0 x1 x5 (kOf x2) (vOf x3) (tOf x6) g) x4) inb_S640x512_S160x512_480_0 inb_S640x512_S160x512_320_0 inb_S640x512_S160x512_160_0 inb_S640x512_S160x512_0_0 g d j)
  funext a
  apply Fin.ext
  match a with
  | 0 => exact (Nat.zero_add _).trans (Nat.one_mul _)
  | 1 => exact (Nat.zero_add _).trans (Nat.one_mul _)

/-- Scratch buffer 0 after the first point of a group. -/
theorem scr0 (c : Dev nD) (i : grid0.Coords) (arg3 : Memref sig .tc .smem S2x24 .f32) (harg3 : arg3.IsWhole) (arg4 : Memref sig .tc .vmem S1x4x160x512 .fp8e4m3) (harg4 : arg4.IsWhole) (arg5 : Memref sig .tc .vmem S1x1x160x6144 .fp8e4m3) (harg5 : arg5.IsWhole) (arg6 : Memref sig .tc .vmem S1x1x160x6144 .fp8e4m3) (harg6 : arg6.IsWhole) (arg7 : Memref sig .tc .vmem S1x1x160x1 .f32) (harg7 : arg7.IsWhole) (arg8 : Memref sig .tc .vmem S1x1x4x512 .f32) (harg8 : arg8.IsWhole) (arg9 : Memref sig .tc .vmem S1x1x6144x4 .f32) (harg9 : arg9.IsWhole) (arg10 : Memref sig .tc .vmem S1x512x640 .bf16) (harg10 : arg10.IsWhole) (arg11 : Memref sig .tc .vmem S1x1x4x512 .f32) (harg11 : arg11.IsWhole) (arg12 : Memref sig .tc .vmem S6144x160 .fp8e4m3) (harg12 : arg12.IsWhole) (arg13 : Memref sig .tc .vmem S160x6144 .bf16) (harg13 : arg13.IsWhole) (arg14 : Memref sig .tc .vmem S4x6144x128 .f32) (harg14 : arg14.IsWhole) (arg15 : Memref sig .tc .vmem S640x512 .f32) (harg15 : arg15.IsWhole) (hc0 : cond0_0 i) (x0 : Vec Ideal S2x24 .f32) (x1 : Vec Ideal S1x4x160x512 .fp8e4m3) (x2 : Vec Ideal S1x1x160x6144 .fp8e4m3) (x3 : Vec Ideal S1x1x160x6144 .fp8e4m3) (x4 : Vec Ideal S1x1x160x1 .f32) (x5 : Vec Ideal S1x1x4x512 .f32) (x6 : Vec Ideal S1x1x6144x4 .f32) :
    sout0_A_0 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = kOf x2 := by
  unfold sout0_A_0
  simp only [View.read_writes_junk_eq_canon]
  unfold kernelRun0_A
  dsimp only
  sl_unfold_run_names
  simp only [View.readAt_eq_ld, Memref.IsWhole.read_unread, ld_codes]
  exact k_stored x2 _

/-- Scratch buffer 1 after the first point of a group. -/
theorem scr1 (c : Dev nD) (i : grid0.Coords) (arg3 : Memref sig .tc .smem S2x24 .f32) (harg3 : arg3.IsWhole) (arg4 : Memref sig .tc .vmem S1x4x160x512 .fp8e4m3) (harg4 : arg4.IsWhole) (arg5 : Memref sig .tc .vmem S1x1x160x6144 .fp8e4m3) (harg5 : arg5.IsWhole) (arg6 : Memref sig .tc .vmem S1x1x160x6144 .fp8e4m3) (harg6 : arg6.IsWhole) (arg7 : Memref sig .tc .vmem S1x1x160x1 .f32) (harg7 : arg7.IsWhole) (arg8 : Memref sig .tc .vmem S1x1x4x512 .f32) (harg8 : arg8.IsWhole) (arg9 : Memref sig .tc .vmem S1x1x6144x4 .f32) (harg9 : arg9.IsWhole) (arg10 : Memref sig .tc .vmem S1x512x640 .bf16) (harg10 : arg10.IsWhole) (arg11 : Memref sig .tc .vmem S1x1x4x512 .f32) (harg11 : arg11.IsWhole) (arg12 : Memref sig .tc .vmem S6144x160 .fp8e4m3) (harg12 : arg12.IsWhole) (arg13 : Memref sig .tc .vmem S160x6144 .bf16) (harg13 : arg13.IsWhole) (arg14 : Memref sig .tc .vmem S4x6144x128 .f32) (harg14 : arg14.IsWhole) (arg15 : Memref sig .tc .vmem S640x512 .f32) (harg15 : arg15.IsWhole) (hc0 : cond0_0 i) (x0 : Vec Ideal S2x24 .f32) (x1 : Vec Ideal S1x4x160x512 .fp8e4m3) (x2 : Vec Ideal S1x1x160x6144 .fp8e4m3) (x3 : Vec Ideal S1x1x160x6144 .fp8e4m3) (x4 : Vec Ideal S1x1x160x1 .f32) (x5 : Vec Ideal S1x1x4x512 .f32) (x6 : Vec Ideal S1x1x6144x4 .f32) :
    sout0_A_1 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = vOf x3 := by
  unfold sout0_A_1
  simp only [View.read_writes_junk_eq_canon]
  unfold kernelRun0_A
  dsimp only
  sl_unfold_run_names
  simp only [View.readAt_eq_ld, Memref.IsWhole.read_unread, ld_codes]
  exact v_stored x3 _

/-- Scratch buffer 2 after the first point of a group. -/
theorem scr2 (c : Dev nD) (i : grid0.Coords) (arg3 : Memref sig .tc .smem S2x24 .f32) (harg3 : arg3.IsWhole) (arg4 : Memref sig .tc .vmem S1x4x160x512 .fp8e4m3) (harg4 : arg4.IsWhole) (arg5 : Memref sig .tc .vmem S1x1x160x6144 .fp8e4m3) (harg5 : arg5.IsWhole) (arg6 : Memref sig .tc .vmem S1x1x160x6144 .fp8e4m3) (harg6 : arg6.IsWhole) (arg7 : Memref sig .tc .vmem S1x1x160x1 .f32) (harg7 : arg7.IsWhole) (arg8 : Memref sig .tc .vmem S1x1x4x512 .f32) (harg8 : arg8.IsWhole) (arg9 : Memref sig .tc .vmem S1x1x6144x4 .f32) (harg9 : arg9.IsWhole) (arg10 : Memref sig .tc .vmem S1x512x640 .bf16) (harg10 : arg10.IsWhole) (arg11 : Memref sig .tc .vmem S1x1x4x512 .f32) (harg11 : arg11.IsWhole) (arg12 : Memref sig .tc .vmem S6144x160 .fp8e4m3) (harg12 : arg12.IsWhole) (arg13 : Memref sig .tc .vmem S160x6144 .bf16) (harg13 : arg13.IsWhole) (arg14 : Memref sig .tc .vmem S4x6144x128 .f32) (harg14 : arg14.IsWhole) (arg15 : Memref sig .tc .vmem S640x512 .f32) (harg15 : arg15.IsWhole) (hc0 : cond0_0 i) (x0 : Vec Ideal S2x24 .f32) (x1 : Vec Ideal S1x4x160x512 .fp8e4m3) (x2 : Vec Ideal S1x1x160x6144 .fp8e4m3) (x3 : Vec Ideal S1x1x160x6144 .fp8e4m3) (x4 : Vec Ideal S1x1x160x1 .f32) (x5 : Vec Ideal S1x1x4x512 .f32) (x6 : Vec Ideal S1x1x6144x4 .f32) :
    sout0_A_2 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = tOf x6 := by
  unfold sout0_A_2
  simp only [View.read_writes_junk_eq_canon]
  unfold kernelRun0_A
  dsimp only
  sl_unfold_run_names
  simp only [View.readAt_eq_ld, Memref.IsWhole.read_unread, ld_codes]
  exact t_stored x6 _ _ _ _ _ _ _ _

/-- The log-sum-exp stored, at a query. -/
theorem lseRow_apply (s : St) (j : Fin 512) :
    lseRow s (ix4 0 0 0 j) = (s.1 (ix2 0 j) + Ideal.log (s.2.1 (ix2 0 j)) * (((Real.log 2)⁻¹ : ℝ) : EReal)) * ((Real.log 2 : ℝ) : EReal) := by
  unfold lseRow
  pointwise [k0_pay114]
  rw [IdealRules.named_const.ideal_named_scalar _ _ _ _ rfl, IdealRules.named_const.ideal_named_scalar _ _ _ _ rfl]

/-- The output stored, at a feature and a query. -/
theorem oRow_apply (s : St) (vs : Vec Ideal S1x1x160x1 .f32) (d : Fin 160) (j : Fin 512) :
    oRow s vs (ix2 d j) = s.2.2 (ix2 d j) * Ideal.div 1 (s.2.1 (ix2 0 j)) * vs (ix4 0 0 d 0) := by
  unfold oRow
  pointwise [k0_pay115]

end Cert.KernelIdeal.Block
-- ==== Proof.Final.lean ====
module
public import proofs.«01_k».proof.Defs
public import proofs.«01_k».proof.Proof.Gen.KernelIdeal.Value
public import Idealize.ShloMosaic.Lib.Pointwise
public import Idealize.ShloMosaic.Lib.Pipeline.ValueKit
public import Idealize.ShloMosaic.Lib.Claim
public import proofs.«01_k».proof.Proof.Block
@[expose] public section
set_option maxRecDepth 16384
noncomputable section
open Idealize.ShloMosaic Idealize.ShloMosaic.TcCoe Idealize.SL.Sem
namespace Cert.KernelIdeal.Final
open Cert.KernelIdeal Cert.KernelIdeal.Gen Cert.KernelIdeal.Value
open Cert.KernelIdeal.Trips Cert.KernelIdeal.Lane Cert.KernelIdeal.Start Cert.KernelIdeal.Block

variable (m : (ℓ : Loc nD τ sig) → Buf (Elt Ideal) ℓ) (c : Dev nD)

/-- The arguments: the queries' codes and scales, -/
abbrev aQ : Vec Ideal S2x6144x24x160 .fp8e4m3 := m ((c : Thread nD τ).loc main_arg0)
abbrev aQs : Vec Ideal S2x24 .f32 := m ((c : Thread nD τ).loc main_arg1)
/-- the keys', -/
abbrev aK : Vec Ideal S2x6144x6x160 .fp8e4m3 := m ((c : Thread nD τ).loc main_arg2)
abbrev aKs : Vec Ideal S2x6 .f32 := m ((c : Thread nD τ).loc main_arg3)
/-- the values', -/
abbrev aV : Vec Ideal S2x6144x6x160 .fp8e4m3 := m ((c : Thread nD τ).loc main_arg4)
abbrev aVs : Vec Ideal S2x6x160 .f32 := m ((c : Thread nD τ).loc main_arg5)
/-- and the cumulative gates in both layouts. -/
abbrev aC : Vec Ideal S2x6x4x6144 .f32 := m ((c : Thread nD τ).loc main_arg6)
abbrev aT : Vec Ideal S2x6x6144x4 .f32 := m ((c : Thread nD τ).loc main_arg7)

/-- Which block of its array each window shows at a point. -/
theorem idx : ∀ t : Fin grid0.N, win0_1.index t = ![(grid0.coords t 0).val, (grid0.coords t 1).val, 0, (grid0.coords t 2).val]
    ∧ win0_2.index t = ![(grid0.coords t 0).val, (grid0.coords t 1).val, 0, 0]
    ∧ win0_3.index t = ![(grid0.coords t 0).val, (grid0.coords t 1).val, 0, 0]
    ∧ win0_4.index t = ![(grid0.coords t 0).val, (grid0.coords t 1).val, 0, 0]
    ∧ win0_5.index t = ![(grid0.coords t 0).val, (grid0.coords t 1).val, 0, (grid0.coords t 2).val]
    ∧ win0_6.index t = ![(grid0.coords t 0).val, (grid0.coords t 1).val, 0, 0]
    ∧ win0_7.index t = ![(grid0.coords t 0).val, (grid0.coords t 2).val, (grid0.coords t 1).val]
    ∧ win0_8.index t = ![(grid0.coords t 0).val, (grid0.coords t 1).val, 0, (grid0.coords t 2).val]
    ∧ win0_0.index t = ![0, 0] := by
  decide +kernel

/-- A point's batch, -/
def pb (t : Fin cfg0.N) : Fin 2 := ⟨(grid0.coords t 0).val, (grid0.coords t 0).isLt⟩
/-- key head -/
def pk (t : Fin cfg0.N) : Fin 6 := ⟨(grid0.coords t 1).val, (grid0.coords t 1).isLt⟩
/-- and block of queries. -/
def pq (t : Fin cfg0.N) : Fin 12 := ⟨(grid0.coords t 2).val, (grid0.coords t 2).isLt⟩

/-- Query `j` of block `n`. -/
def at512 (n : Fin 12) (j : Fin 512) : Fin 6144 := ⟨n.val * 512 + j.val, by omega⟩
/-- Head `g` of key head `kv`. -/
def hd (kv : Fin 6) (g : Fin 4) : Fin 24 := ⟨kv.val * 4 + g.val, by omega⟩

/-- The scales' block is the product of the queries' and the keys' scales, -/
theorem blk0 (t : Fin cfg0.N) (b : Fin 2) (kv : Fin 6) (g : Fin 4) :
    iblk m c 0 t (ix2 b (hd kv g)) = aQs m c (ix2 b (hd kv g)) * aKs m c (ix2 b kv) := by
  have he : (win0_0.blk t).view.emb (ix2 b (hd kv g)) = (ix2 b (hd kv g) : S2x24.Idx) := by blk_ext [idx t]
  unfold iblk
  entry_read
  refine (congrArg (mulf (aQs m c) (fun i => shapeCast S2x24 (broadcastInDim S2x6x4 ![0, 1] bcast_S2x6_S2x6x4_0_1 (aKs m c)) shapeCasts_S2x6x4_S2x24 i) : FVec Ideal S2x24 .f32) he).trans ?_
  pointwise
  exact congrArg (fun n => aQs m c (ix2 b (hd kv g)) * aKs m c (ix2 b n)) (Fin.ext (by show (kv.val * 4 + g.val) / 4 = kv.val; omega))

/-- the queries' -/
theorem blk1 (t : Fin cfg0.N) (g : Fin 4) (d : Fin 160) (j : Fin 512) :
    iblk m c 1 t (ix4 0 g d j) = aQ m c (ix4 (pb t) (at512 (pq t) j) (hd (pk t) g) d) := by
  have he : (win0_1.blk t).view.emb (ix4 0 g d j) = (ix4 (pb t) (hd (pk t) g) d (at512 (pq t) j) : S2x24x160x6144.Idx) := by
    blk_ext [idx t, pb, pk, pq, at512, hd]
  unfold iblk
  entry_read
  refine (congrArg (transpose S2x24x160x6144 [0, 2, 3, 1] (aQ m c) transposes_S2x6144x24x160_S2x24x160x6144_0_2_3_1) he).trans ?_
  pointwise

/-- the keys', -/
theorem blk2 (t : Fin cfg0.N) (d : Fin 160) (k : Fin 6144) :
    iblk m c 2 t (ix4 0 0 d k) = aK m c (ix4 (pb t) k (pk t) d) := by
  have he : (win0_2.blk t).view.emb (ix4 0 0 d k) = (ix4 (pb t) (pk t) d k : S2x6x160x6144.Idx) := by blk_ext [idx t, pb, pk]
  unfold iblk
  entry_read
  refine (congrArg (transpose S2x6x160x6144 [0, 2, 3, 1] (aK m c) transposes_S2x6144x6x160_S2x6x160x6144_0_2_3_1) he).trans ?_
  pointwise

/-- the values' -/
theorem blk3 (t : Fin cfg0.N) (d : Fin 160) (k : Fin 6144) :
    iblk m c 3 t (ix4 0 0 d k) = aV m c (ix4 (pb t) k (pk t) d) := by
  have he : (win0_3.blk t).view.emb (ix4 0 0 d k) = (ix4 (pb t) (pk t) d k : S2x6x160x6144.Idx) := by blk_ext [idx t, pb, pk]
  unfold iblk
  entry_read
  refine (congrArg (transpose S2x6x160x6144 [0, 2, 3, 1] (aV m c) transposes_S2x6144x6x160_S2x6x160x6144_0_2_3_1) he).trans ?_
  pointwise

/-- and the values' scales', -/
theorem blk4 (t : Fin cfg0.N) (d : Fin 160) :
    iblk m c 4 t (ix4 0 0 d 0) = aVs m c (ix3 (pb t) (pk t) d) := by
  have he : (win0_4.blk t).view.emb (ix4 0 0 d 0) = (ix4 (pb t) (pk t) d 0 : S2x6x160x1.Idx) := by blk_ext [idx t, pb, pk]
  unfold iblk
  entry_read
  refine (congrArg (broadcastInDim S2x6x160x1 ![0, 1, 2] bcast_S2x6x160_S2x6x160x1_0_1_2 (aVs m c)) he).trans ?_
  pointwise

/-- and the gates' are blocks of the arguments. -/
theorem blk5 (t : Fin cfg0.N) (g : Fin 4) (j : Fin 512) :
    iblk m c 5 t (ix4 0 0 g j) = aC m c (ix4 (pb t) (pk t) g (at512 (pq t) j)) := by
  have he : (win0_5.blk t).view.emb (ix4 0 0 g j) = (ix4 (pb t) (pk t) g (at512 (pq t) j) : S2x6x4x6144.Idx) := by
    blk_ext [idx t, pb, pk, pq, at512]
  unfold iblk
  entry_read
  exact congrArg _ he

/-- The keys' gates. -/
theorem blk6 (t : Fin cfg0.N) (k : Fin 6144) (g : Fin 4) :
    iblk m c 6 t (ix4 0 0 k g) = aT m c (ix4 (pb t) (pk t) k g) := by
  have he : (win0_6.blk t).view.emb (ix4 0 0 k g) = (ix4 (pb t) (pk t) k g : S2x6x6144x4.Idx) := by
    blk_ext [idx t, pb, pk]
  unfold iblk
  entry_read
  exact congrArg _ he

/-- Head `g`'s scale factor, from the arguments; -/
def alA (b : Fin 2) (kv : Fin 6) (g : Fin 4) : EReal :=
  aQs m c (ix2 b (hd kv g)) * aKs m c (ix2 b kv) * (((Real.sqrt 160)⁻¹ * (Real.log 2)⁻¹ : ℝ) : EReal)
/-- a block of its queries, -/
def qA (b : Fin 2) (kv : Fin 6) (n : Fin 12) (g : Fin 4) : FVec Ideal S160x512 .fp8e4m3 := fun y => aQ m c (ix4 b (at512 n (y 1)) (hd kv g) (y 0))
/-- their gates, -/
def cqA (b : Fin 2) (kv : Fin 6) (n : Fin 12) (g : Fin 4) : FVec Ideal S1x512 .f32 := fun y => aC m c (ix4 b kv g (at512 n (y 1)))
/-- the keys, -/
def kA (b : Fin 2) (kv : Fin 6) : Vec Ideal S6144x160 .fp8e4m3 := fun y => aK m c (ix4 b (y 0) kv (y 1))
/-- the values -/
def vA (b : Fin 2) (kv : Fin 6) : Vec Ideal S160x6144 .bf16 := fun y => aV m c (ix4 b (y 1) kv (y 0))
/-- and the keys' gates. -/
def tA (b : Fin 2) (kv : Fin 6) : Vec Ideal S4x6144x128 .f32 := fun y => aT m c (ix4 b kv (y 1) (y 0))

/-- Head `g`'s state once all keys have been seen. -/
def fin (b : Fin 2) (kv : Fin 6) (n : Fin 12) (g : Fin 4) : St :=
  head n.val (alA m c b kv g) (qA m c b kv n g) (cqA m c b kv n g) (kA m c b kv) (vA m c b kv) (tA m c b kv) g

/-- The keys a point stores, -/
theorem k_blk (t : Fin cfg0.N) : kOf (iblk m c 2 t) = kA m c (pb t) (pk t) := by
  funext y
  exact blk2 m c t (y 1) (y 0)

/-- the values -/
theorem v_blk (t : Fin cfg0.N) : vOf (iblk m c 3 t) = vA m c (pb t) (pk t) := by
  funext y
  exact blk3 m c t (y 0) (y 1)

/-- and the gates, from the arguments. -/
theorem t_blk (t : Fin cfg0.N) : tOf (iblk m c 6 t) = tA m c (pb t) (pk t) := by
  funext y
  exact blk6 m c t (y 1) (y 0)

/-- A point of a group keeps the batch and key head of the point before it. -/
theorem same : ∀ t : Fin grid0.N, t.val % 12 ≠ 0 → ∀ h : t.val - 1 < grid0.N,
    (grid0.coords ⟨t.val - 1, h⟩ 0).val = (grid0.coords t 0).val ∧ (grid0.coords ⟨t.val - 1, h⟩ 1).val = (grid0.coords t 1).val := by
  decide +kernel

/-- After any point the scratch buffers hold the keys, values and gates of the point's batch and key head. -/
theorem scratch (n : ℕ) : ∀ hn : n < cfg0.N, (outsAt0 m c n hn).2.2.1 = kA m c (pb ⟨n, hn⟩) (pk ⟨n, hn⟩)
    ∧ (outsAt0 m c n hn).2.2.2.1 = vA m c (pb ⟨n, hn⟩) (pk ⟨n, hn⟩) ∧ (outsAt0 m c n hn).2.2.2.2 = tA m c (pb ⟨n, hn⟩) (pk ⟨n, hn⟩) := by
  induction n with
  | zero =>
    intro hn
    rw [outsAt0_A m c ⟨0, hn⟩ rfl]
    dsimp only
    exact ⟨(scr0 ..).trans (k_blk m c _), (scr1 ..).trans (v_blk m c _), (scr2 ..).trans (t_blk m c _)⟩
  | succ n ih =>
    intro hn
    by_cases h0 : (n + 1) % 12 = 0
    · rw [outsAt0_A m c ⟨n + 1, hn⟩ h0]
      dsimp only
      exact ⟨(scr0 ..).trans (k_blk m c _), (scr1 ..).trans (v_blk m c _), (scr2 ..).trans (t_blk m c _)⟩
    · rw [outsAt0_B m c ⟨n + 1, hn⟩ h0]
      have hb : pb ⟨n, Nat.lt_of_succ_lt hn⟩ = pb ⟨n + 1, hn⟩ := Fin.ext (same ⟨n + 1, hn⟩ h0 _).1
      have hk : pk ⟨n, Nat.lt_of_succ_lt hn⟩ = pk ⟨n + 1, hn⟩ := Fin.ext (same ⟨n + 1, hn⟩ h0 _).2
      have h := ih (Nat.lt_of_succ_lt hn)
      rw [hb, hk] at h
      exact h

/-- A point's state of head `g`, from the arguments. -/
theorem state_eq (t : Fin cfg0.N) (g : Fin 4) :
    state (grid0.coords t) (iblk m c 0 t) (iblk m c 1 t) (iblk m c 5 t) (kA m c (pb t) (pk t)) (vA m c (pb t) (pk t)) (tA m c (pb t) (pk t)) g
      = fin m c (pb t) (pk t) (pq t) g := by
  have h1 : alOf (iblk m c 0 t) (grid0.coords t) g.val = alA m c (pb t) (pk t) g := by
    unfold alOf alA
    rw [← blk0 m c t (pb t) (pk t) g]
    have key : ∀ (x : Vec Ideal S2x24 .f32) (n n' : Fin 24), n = n' → x (ix2 (pb t) n) * (((Real.sqrt 160)⁻¹ * (Real.log 2)⁻¹ : ℝ) : EReal)
        = x (ix2 (pb t) n') * (((Real.sqrt 160)⁻¹ * (Real.log 2)⁻¹ : ℝ) : EReal) := by
      rintro _ _ _ rfl
      rfl
    refine key (iblk m c 0 t) _ _ (Fin.ext ?_)
    show ((grid0.coords t 1).val * 4 + g.val) % 24 = (grid0.coords t 1).val * 4 + g.val
    have : (grid0.coords t 1).val < 6 := (grid0.coords t 1).isLt
    omega
  have hg : (⟨g.val % 4, Nat.mod_lt _ (by norm_num)⟩ : Fin 4) = g := Fin.ext (Nat.mod_eq_of_lt g.isLt)
  have h2 : qOf (iblk m c 1 t) g.val = qA m c (pb t) (pk t) (pq t) g := by
    funext y
    unfold qOf
    rw [hg]
    exact blk1 m c t g (y 0) (y 1)
  have h3 : cqOf (iblk m c 5 t) g.val = cqA m c (pb t) (pk t) (pq t) g := by
    funext y
    unfold cqOf
    rw [hg]
    exact blk5 m c t g (y 1)
  unfold state fin
  rw [h1, h2, h3]
  rfl

/-- What a point leaves in its block of log-sum-exps, -/
theorem left8 (t : Fin cfg0.N) (g : Fin 4) (j : Fin 512) :
    (outsAt0 m c t.val t.isLt).2.1 (ix4 0 0 g j) = lseRow (fin m c (pb t) (pk t) (pq t) g) (ix4 0 0 0 j) := by
  by_cases h0 : t.val % 12 = 0
  · rw [outsAt0_A m c t h0]
    dsimp only
    refine (opA8 ..).trans ?_
    rw [k_blk, v_blk, t_blk, state_eq]
  · rw [outsAt0_B m c t h0]
    dsimp only
    refine (opB8 ..).trans ?_
    have hlt : t.val - 1 < cfg0.N := Nat.lt_of_le_of_lt (Nat.sub_le _ _) t.isLt
    have hb : pb ⟨t.val - 1, hlt⟩ = pb t := Fin.ext (same t h0 hlt).1
    have hk : pk ⟨t.val - 1, hlt⟩ = pk t := Fin.ext (same t h0 hlt).2
    have h := scratch m c (t.val - 1) hlt
    rw [h.1, h.2.1, h.2.2, hb, hk, state_eq]

/-- and in its block of outputs. -/
theorem left7 (t : Fin cfg0.N) (g : Fin 4) (d : Fin 160) (j : Fin 512) :
    (outsAt0 m c t.val t.isLt).1 (ix3 0 j ⟨g.val * 160 + d.val, by omega⟩) = oRow (fin m c (pb t) (pk t) (pq t) g) (iblk m c 4 t) (ix2 d j) := by
  by_cases h0 : t.val % 12 = 0
  · rw [outsAt0_A m c t h0]
    dsimp only
    refine (opA7 ..).trans ?_
    rw [k_blk, v_blk, t_blk, state_eq]
  · rw [outsAt0_B m c t h0]
    dsimp only
    refine (opB7 ..).trans ?_
    have hlt : t.val - 1 < cfg0.N := Nat.lt_of_le_of_lt (Nat.sub_le _ _) t.isLt
    have hb : pb ⟨t.val - 1, hlt⟩ = pb t := Fin.ext (same t h0 hlt).1
    have hk : pk ⟨t.val - 1, hlt⟩ = pk t := Fin.ext (same t h0 hlt).2
    have h := scratch m c (t.val - 1) hlt
    rw [h.1, h.2.1, h.2.2, hb, hk, state_eq]

/-- The log-sum-exps, as a function of the arguments. -/
def G8 : Vec Ideal S2x6x4x6144 .f32 := fun y =>
  lseRow (fin m c (y 0) (y 1) ⟨(y 3).val / 512, by have := (y 3).isLt; change (y 3).val < 6144 at this; omega⟩ (y 2))
    (ix4 0 0 0 ⟨(y 3).val % 512, Nat.mod_lt _ (by norm_num)⟩)

/-- The outputs, as a function of the arguments. -/
def G7 : Vec Ideal S2x6144x3840 .bf16 := fun y =>
  have hy : (y 2).val < 3840 := (y 2).isLt
  have hs : (y 1).val < 6144 := (y 1).isLt
  let st := fin m c (y 0) ⟨(y 2).val / 640, by omega⟩ ⟨(y 1).val / 512, by omega⟩ ⟨(y 2).val / 160 % 4, by omega⟩
  let d : Fin 160 := ⟨(y 2).val % 160, by omega⟩
  let j : Fin 512 := ⟨(y 1).val % 512, by omega⟩
  st.2.2 (ix2 d j) * Ideal.div 1 (st.2.1 (ix2 0 j)) * aVs m c (ix3 (y 0) ⟨(y 2).val / 640, by omega⟩ d)

/-- Feature `d` of head `g` of key head `kv` in the output's last axis. -/
def col (kv : Fin 6) (g : Fin 4) (d : Fin 160) : Fin 3840 := ⟨kv.val * 640 + g.val * 160 + d.val, by omega⟩

theorem G8_apply (b : Fin 2) (kv : Fin 6) (g : Fin 4) (n : Fin 12) (j : Fin 512) :
    G8 m c (ix4 b kv g (at512 n j)) = lseRow (fin m c b kv n g) (ix4 0 0 0 j) := by
  have e1 : (⟨(at512 n j).val / 512, by have := (at512 n j).isLt; omega⟩ : Fin 12) = n := Fin.ext (by show (n.val * 512 + j.val) / 512 = n.val; omega)
  have e2 : (⟨(at512 n j).val % 512, Nat.mod_lt _ (by norm_num)⟩ : Fin 512) = j := Fin.ext (by show (n.val * 512 + j.val) % 512 = j.val; omega)
  show lseRow (fin m c b kv ⟨(at512 n j).val / 512, _⟩ g) (ix4 0 0 0 ⟨(at512 n j).val % 512, _⟩) = _
  rw [e1, e2]

theorem G7_apply (b : Fin 2) (kv : Fin 6) (g : Fin 4) (d : Fin 160) (n : Fin 12) (j : Fin 512) :
    G7 m c (ix3 b (at512 n j) (col kv g d))
      = (fin m c b kv n g).2.2 (ix2 d j) * Ideal.div 1 ((fin m c b kv n g).2.1 (ix2 0 j)) * aVs m c (ix3 b kv d) := by
  have e1 : (⟨(at512 n j).val / 512, by have := (at512 n j).isLt; omega⟩ : Fin 12) = n := Fin.ext (by show (n.val * 512 + j.val) / 512 = n.val; omega)
  have e2 : (⟨(at512 n j).val % 512, Nat.mod_lt _ (by norm_num)⟩ : Fin 512) = j := Fin.ext (by show (n.val * 512 + j.val) % 512 = j.val; omega)
  have hc := (col kv g d).isLt
  have e3 : (⟨(col kv g d).val / 640, by omega⟩ : Fin 6) = kv := Fin.ext (by show (kv.val * 640 + g.val * 160 + d.val) / 640 = kv.val; omega)
  have e4 : (⟨(col kv g d).val / 160 % 4, by omega⟩ : Fin 4) = g := Fin.ext (by show (kv.val * 640 + g.val * 160 + d.val) / 160 % 4 = g.val; omega)
  have e5 : (⟨(col kv g d).val % 160, by omega⟩ : Fin 160) = d := Fin.ext (by show (kv.val * 640 + g.val * 160 + d.val) % 160 = d.val; omega)
  show (fin m c b ⟨(col kv g d).val / 640, _⟩ ⟨(at512 n j).val / 512, _⟩ ⟨(col kv g d).val / 160 % 4, _⟩).2.2 (ix2 ⟨(col kv g d).val % 160, _⟩ ⟨(at512 n j).val % 512, _⟩)
    * Ideal.div 1 ((fin m c b ⟨(col kv g d).val / 640, _⟩ ⟨(at512 n j).val / 512, _⟩ ⟨(col kv g d).val / 160 % 4, _⟩).2.1 (ix2 0 ⟨(at512 n j).val % 512, _⟩))
    * aVs m c (ix3 b ⟨(col kv g d).val / 640, _⟩ ⟨(col kv g d).val % 160, _⟩) = _
  rw [e1, e2, e3, e4, e5]

/-- The log-sum-exps after the run. -/
theorem final8 : (dats m 0 c).arrAt 8 cfg0.N = G8 m c := by
  refine (dats m 0 c).arrAt_eq_of_covers 8 _ (by decide +kernel) fun t hf y => ?_
  blk_simp
  rw [after0_8]
  have hy : ∀ y : S1x1x4x512.Idx, (outsAt0 m c t.val t.isLt).2.1 y = G8 m c ((win0_8.blk t).view.emb y) := by
    intro y
    idx_vars y
    obtain rfl : y0 = 0 := Subsingleton.elim _ _
    obtain rfl : y1 = 0 := Subsingleton.elim _ _
    have he : (win0_8.blk t).view.emb (ix4 0 0 y2 y3) = (ix4 (pb t) (pk t) y2 (at512 (pq t) y3) : S2x6x4x6144.Idx) := by
      blk_ext [idx t, pb, pk, pq, at512]
    exact (left8 m c t y2 y3).trans ((G8_apply m c _ _ _ _ _).symm.trans (congrArg (G8 m c) he.symm))
  exact hy y

/-- The outputs after the run. -/
theorem final7 : (dats m 0 c).arrAt 7 cfg0.N = G7 m c := by
  refine (dats m 0 c).arrAt_eq_of_covers 7 _ (by decide +kernel) fun t hf y => ?_
  blk_simp
  rw [after0_7]
  have hy : ∀ (j : Fin 512) (g : Fin 4) (d : Fin 160), (outsAt0 m c t.val t.isLt).1 (ix3 0 j ⟨g.val * 160 + d.val, by omega⟩)
      = G7 m c ((win0_7.blk t).view.emb (ix3 0 j ⟨g.val * 160 + d.val, by omega⟩ : S1x512x640.Idx)) := by
    intro j g d
    have he : (win0_7.blk t).view.emb (ix3 0 j ⟨g.val * 160 + d.val, by omega⟩ : S1x512x640.Idx) = (ix3 (pb t) (at512 (pq t) j) (col (pk t) g d) : S2x6144x3840.Idx) := by
      blk_ext [idx t, pb, pk, pq, at512, col]
    refine (left7 m c t g d j).trans (Eq.trans ?_ ((G7_apply m c _ _ _ _ _ _).symm.trans (congrArg (G7 m c) he.symm)))
    rw [oRow_apply]
    exact congrArg (fun z : EReal => _ * z) (blk4 m c t d)
  have hz : ∀ y : S1x512x640.Idx, (outsAt0 m c t.val t.isLt).1 y = G7 m c ((win0_7.blk t).view.emb y) := by
    intro y
    idx_vars y
    obtain rfl : y0 = 0 := Subsingleton.elim _ _
    have e : y2 = ⟨(⟨y2.val / 160, by omega⟩ : Fin 4).val * 160 + (⟨y2.val % 160, by omega⟩ : Fin 160).val, by show y2.val / 160 * 160 + y2.val % 160 < 640; omega⟩ :=
      Fin.ext (by show y2.val = y2.val / 160 * 160 + y2.val % 160; omega)
    rw [e]
    exact hy y1 ⟨y2.val / 160, by omega⟩ ⟨y2.val % 160, by omega⟩
  exact hz y

end Cert.KernelIdeal.Final
-- ==== Proof.Refer.lean ====
module
public import proofs.«01_k».proof.Defs
public import proofs.«01_k».proof.Proof.Gen.ReferenceIdeal.Run
public import proofs.«01_k».proof.Proof.Gen.ReferenceIdeal.Read
public import Idealize.ShloMosaic.Lib.Pointwise
public import Idealize.ShloMosaic.Lib.Pipeline.ValueKit
public import Idealize.ShloMosaic.Lib.Claim
public import Idealize.ShloMosaic.Lib.IdealHost
public import Idealize.ShloMosaic.Lib.WordCmp
@[expose] public section
set_option maxRecDepth 16384
noncomputable section
open Idealize.ShloMosaic Idealize.ShloMosaic.TcCoe Idealize.SL.Sem
namespace Cert.ReferenceIdeal.Refer
open Cert.ReferenceIdeal Cert.ReferenceIdeal.Gen Cert.ReferenceIdeal.Read
open Idealize.ShloMosaic.StableHlo

section Region
variable (m : (ℓ : Loc nD τ sig) → Buf (Elt Ideal) ℓ) (c : Dev nD)

/-- The query codes. -/
abbrev aQ : Vec Ideal S2x6144x24x160 .fp8e4m3 := m ((c.tc : Thread nD τ).loc main_arg0)
/-- The key codes. -/
abbrev aK : Vec Ideal S2x6144x6x160 .fp8e4m3 := m ((c.tc : Thread nD τ).loc main_arg2)
/-- The value codes. -/
abbrev aV : Vec Ideal S2x6144x6x160 .fp8e4m3 := m ((c.tc : Thread nD τ).loc main_arg4)

/-- The decoded queries are the query codes' values. -/
theorem region_q : (dats m 0 c).arrAt 3 cfg0.N = (fun i => aQ m c i : Vec Ideal S2x6144x24x160 .bf16) := by
  refine (dats m 0 c).arrAt_eq_of_covers 3 _ (by decide +kernel) fun t hf y => ?_
  blk_simp
  rw [after0_3]
  obtain rfl := fin_N0 t
  have h1 : ∀ a, win0_3.index t0_0 a = 0 := fun a => by fin_cases a <;> rfl
  have h2 : ∀ a, win0_0.index t0_0 a = 0 := fun a => by fin_cases a <;> rfl
  have hy : ∀ y : S2x6144x24x160.Idx, out0_3 (iblk m c 0 t0_0) (iblk m c 1 t0_0) (iblk m c 2 t0_0) y
      = aQ m c ((win0_3.blk t0_0).view.emb y) := by
    intro y
    unfold out0_3
    rw [View.canon_cons_unit_lit _ _ _ (by decide), View.ld_unit_lit _ _ (by decide)]
    idx_vars y
    have he : (win0_3.blk t0_0).view.emb (ix4 y0 y1 y2 y3 : S2x6144x24x160.Idx) = (ix4 y0 y1 y2 y3 : S2x6144x24x160.Idx) := by
      blk_ext [h1, h2]
    have hi : (win0_0.blk t0_0).view.emb (ix4 y0 y1 y2 y3 : S2x6144x24x160.Idx) = (ix4 y0 y1 y2 y3 : S2x6144x24x160.Idx) := by
      blk_ext [h1, h2]
    pointwise [k0_pay1]
    exact (congrArg (aQ m c) hi).trans (congrArg (aQ m c) he.symm)
  exact hy y

/-- The decoded keys are the key codes' values. -/
theorem region_k : (dats m 0 c).arrAt 4 cfg0.N = (fun i => aK m c i : Vec Ideal S2x6144x6x160 .bf16) := by
  refine (dats m 0 c).arrAt_eq_of_covers 4 _ (by decide +kernel) fun t hf y => ?_
  blk_simp
  rw [after0_4]
  obtain rfl := fin_N0 t
  have h1 : ∀ a, win0_4.index t0_0 a = 0 := fun a => by fin_cases a <;> rfl
  have h2 : ∀ a, win0_1.index t0_0 a = 0 := fun a => by fin_cases a <;> rfl
  have hy : ∀ y : S2x6144x6x160.Idx, out0_4 (iblk m c 0 t0_0) (iblk m c 1 t0_0) (iblk m c 2 t0_0) y
      = aK m c ((win0_4.blk t0_0).view.emb y) := by
    intro y
    unfold out0_4
    rw [View.canon_cons_unit_lit _ _ _ (by decide), View.ld_unit_lit _ _ (by decide)]
    idx_vars y
    have he : (win0_4.blk t0_0).view.emb (ix4 y0 y1 y2 y3 : S2x6144x6x160.Idx) = (ix4 y0 y1 y2 y3 : S2x6144x6x160.Idx) := by
      blk_ext [h1, h2]
    have hi : (win0_1.blk t0_0).view.emb (ix4 y0 y1 y2 y3 : S2x6144x6x160.Idx) = (ix4 y0 y1 y2 y3 : S2x6144x6x160.Idx) := by
      blk_ext [h1, h2]
    pointwise [k0_pay2]
    exact (congrArg (aK m c) hi).trans (congrArg (aK m c) he.symm)
  exact hy y

/-- The decoded values are the value codes' values. -/
theorem region_v : (dats m 0 c).arrAt 5 cfg0.N = (fun i => aV m c i : Vec Ideal S2x6144x6x160 .bf16) := by
  refine (dats m 0 c).arrAt_eq_of_covers 5 _ (by decide +kernel) fun t hf y => ?_
  blk_simp
  rw [after0_5]
  obtain rfl := fin_N0 t
  have h1 : ∀ a, win0_5.index t0_0 a = 0 := fun a => by fin_cases a <;> rfl
  have h2 : ∀ a, win0_2.index t0_0 a = 0 := fun a => by fin_cases a <;> rfl
  have hy : ∀ y : S2x6144x6x160.Idx, out0_5 (iblk m c 0 t0_0) (iblk m c 1 t0_0) (iblk m c 2 t0_0) y
      = aV m c ((win0_5.blk t0_0).view.emb y) := by
    intro y
    unfold out0_5
    rw [View.canon_cons_unit_lit _ _ _ (by decide), View.ld_unit_lit _ _ (by decide)]
    idx_vars y
    have he : (win0_5.blk t0_0).view.emb (ix4 y0 y1 y2 y3 : S2x6144x6x160.Idx) = (ix4 y0 y1 y2 y3 : S2x6144x6x160.Idx) := by
      blk_ext [h1, h2]
    have hi : (win0_2.blk t0_0).view.emb (ix4 y0 y1 y2 y3 : S2x6144x6x160.Idx) = (ix4 y0 y1 y2 y3 : S2x6144x6x160.Idx) := by
      blk_ext [h1, h2]
    pointwise [k0_pay3]
    exact (congrArg (aV m c) hi).trans (congrArg (aV m c) he.symm)
  exact hy y

end Region
section Math
variable (x0 : Vec Ideal S2x6144x24x160 .bf16) (x1 : Vec Ideal S2x24 .f32) (x2 : Vec Ideal S2x6144x6x160 .bf16)
  (x3 : Vec Ideal S2x6 .f32) (x4 : Vec Ideal S2x6144x6x160 .bf16) (x5 : Vec Ideal S2x6x160 .f32)
  (x6 : Vec Ideal S2x6x4x6144 .f32) (x7 : Vec Ideal S2x6x6144x4 .f32)

/-- Query head `g` of key head `kv`. -/
abbrev hd (kv : Fin 6) (g : Fin 4) : Fin 24 := ⟨kv.val * 4 + g.val, by omega⟩

/-- The reference's logits: the scaled product of the decoded codes, plus the query's cumulative gate, less the key's;
minus infinity where the key lies after the query. -/
def Y (b : Fin 2) (kv : Fin 6) (g : Fin 4) (s k : Fin 6144) : EReal :=
  if k.val ≤ s.val then
    (∑ d : Fin 160, x0 (ix4 b s (hd kv g) d) * x2 (ix4 b k kv d)) * Ideal.div (x1 (ix2 b (hd kv g)) * x3 (ix2 b kv)) ((Real.sqrt 160 : ℝ) : EReal)
      + x6 (ix4 b kv g s) * ((Real.log 2 : ℝ) : EReal) - x7 (ix4 b kv k g) * ((Real.log 2 : ℝ) : EReal)
  else ⊥

/-- The host's logarithm of two. -/
theorem two_log : Ideal.log (Ideal.ofBits .f32 0x40000000#32) = ((Real.log 2 : ℝ) : EReal) := by
  have h : Ideal.ofBits .f32 0x40000000#32 = ((2 : ℝ) : EReal) := by
    simp [Ideal.ofBits, Ideal.ieee]
    first | done | (norm_cast; norm_num)
  rw [h, Ideal.log_coe, if_neg (by norm_num)]

/-- The host's square root of the head width. -/
theorem width_sqrt : Ideal.sqrt (Ideal.ofBits .f32 0x43200000#32) = ((Real.sqrt 160 : ℝ) : EReal) := by
  have h : Ideal.ofBits .f32 0x43200000#32 = ((160 : ℝ) : EReal) := by
    simp [Ideal.ofBits, Ideal.ieee]
    first | done | (norm_cast; norm_num)
  rw [h, Ideal.sqrt_coe, if_neg (by norm_num)]

/-- Minus infinity's pattern. -/
theorem bot_bits : Ideal.ofBits .f32 0xFF800000#32 = (⊥ : EReal) := by
  simp [Ideal.ofBits, Ideal.ieee]

/-- The decoded queries split by key head: query head `kv * 4 + g`. -/
theorem q_heads (b : Fin 2) (s : Fin 6144) (kv : Fin 6) (g : Fin 4) (d : Fin 160) :
    val_main_v13 (F := Ideal) x0 (ix5 b s kv g d) = x0 (ix4 b s (hd kv g) d) := by
  rw [val_main_v13_apply]
  refine congrArg x0 (funext fun a => Fin.ext ?_)
  match a with
  | 0 => show ((((b.val * 6144 + s.val) * 6 + kv.val) * 4 + g.val) * 160 + d.val) / 23592960 = b.val; omega
  | 1 => show ((((b.val * 6144 + s.val) * 6 + kv.val) * 4 + g.val) * 160 + d.val) / 3840 % 6144 = s.val; omega
  | 2 => show ((((b.val * 6144 + s.val) * 6 + kv.val) * 4 + g.val) * 160 + d.val) / 160 % 24 = kv.val * 4 + g.val; omega
  | 3 => show ((((b.val * 6144 + s.val) * 6 + kv.val) * 4 + g.val) * 160 + d.val) % 160 = d.val; omega

/-- The query scales split the same way. -/
theorem q_scale (b : Fin 2) (kv : Fin 6) (g : Fin 4) :
    val_main_v6 (F := Ideal) x1 (ix3 b kv g) = x1 (ix2 b (hd kv g)) := by
  rw [val_main_v6_apply]
  refine congrArg x1 (funext fun a => Fin.ext ?_)
  match a with
  | 0 => show ((b.val * 6 + kv.val) * 4 + g.val) / 24 = b.val; omega
  | 1 => show ((b.val * 6 + kv.val) * 4 + g.val) % 24 = kv.val * 4 + g.val; omega

/-- The scale of a head: the two scales' product over the square root of the head width. -/
theorem scale (b : Fin 2) (kv : Fin 6) (g : Fin 4) :
    val_main_v12 (F := Ideal) x1 x3 (ix3 b kv g) = Ideal.div (x1 (ix2 b (hd kv g)) * x3 (ix2 b kv)) ((Real.sqrt 160 : ℝ) : EReal) := by
  have h : val_main_v12 (F := Ideal) x1 x3 (ix3 b kv g)
      = Ideal.div (val_main_v6 (F := Ideal) x1 (ix3 b kv g) * x3 (ix2 b kv)) (Ideal.sqrt (Ideal.ofBits .f32 0x43200000#32)) := by
    pointwise [val_main_v12, val_main_v9, val_main_v8, val_main_v7, val_main_v11, val_main_v10, val_main_cst_0]
  rw [h, q_scale, width_sqrt]

/-- The scaled product of decoded queries and keys. -/
theorem product (b : Fin 2) (kv : Fin 6) (g : Fin 4) (s k : Fin 6144) :
    val_main_v21 (F := Ideal) x1 x3 x0 x2 (ix5 b kv g s k)
      = (∑ d : Fin 160, x0 (ix4 b s (hd kv g) d) * x2 (ix4 b k kv d)) * Ideal.div (x1 (ix2 b (hd kv g)) * x3 (ix2 b kv)) ((Real.sqrt 160 : ℝ) : EReal) := by
  have h : val_main_v21 (F := Ideal) x1 x3 x0 x2 (ix5 b kv g s k)
      = (∑ d : Fin 160, val_main_v13 (F := Ideal) x0 (ix5 b s kv g d) * x2 (ix4 b k kv d)) * val_main_v12 (F := Ideal) x1 x3 (ix3 b kv g) := by
    pointwise [val_main_v21, val_main_v18, val_main_v14, val_main_v15, val_main_v20, val_main_v19]
  rw [h, scale]
  refine congrArg (fun z : EReal => z * _) (Finset.sum_congr rfl fun d _ => ?_)
  rw [q_heads]

/-- The query's cumulative gate, in base e. -/
theorem gate_q (b : Fin 2) (kv : Fin 6) (g : Fin 4) (s k : Fin 6144) :
    val_main_v23 (F := Ideal) x6 (ix5 b kv g s k) = x6 (ix4 b kv g s) * ((Real.log 2 : ℝ) : EReal) := by
  rw [← two_log]
  pointwise [val_main_v23, val_main_v22, val_main_v3, val_main_v2, val_main_v1, val_main_cst]

/-- The key's cumulative gate, in base e. -/
theorem gate_k (b : Fin 2) (kv : Fin 6) (g : Fin 4) (s k : Fin 6144) :
    val_main_v27 (F := Ideal) x7 (ix5 b kv g s k) = x7 (ix4 b kv k g) * ((Real.log 2 : ℝ) : EReal) := by
  rw [← two_log]
  pointwise [val_main_v27, val_main_v26, val_main_v25, val_main_v5, val_main_v4, val_main_v1, val_main_cst]

/-- The reference's masked logits are `Y`. -/
theorem logits (b : Fin 2) (kv : Fin 6) (g : Fin 4) (s k : Fin 6144) :
    val_main_v35 (F := Ideal) x1 x3 x6 x7 x0 x2 (ix5 b kv g s k) = Y x0 x1 x2 x3 x6 x7 b kv g s k := by
  rw [val_main_v35_apply, val_main_call0_v1_apply, val_main_call0_v2_apply, val_main_call0_v0_apply, val_main_cst_1_apply, val_main_v34_apply, val_main_v33_apply, val_main_v32_apply, val_main_v31_apply, val_main_v30_apply, val_main_v29_apply, val_main_v29_apply]
  rw [val_main_v28_apply, val_main_v24_apply, product, gate_q, gate_k]
  have hs : s.val < 6144 := s.isLt
  have hk : k.val < 6144 := k.isLt
  have hc : IntOp.cmpi .sle (BitVec.ofNat 32 k.val) (BitVec.ofNat 32 s.val) = if k.val ≤ s.val then 1#1 else 0#1 := by
    rw [Idealize.ShloMosaic.WordCmp.cmpi_sle_ofNat (by omega) (by omega)]
    by_cases h : k.val ≤ s.val
    · rw [if_pos h, decide_eq_true h]; rfl
    · rw [if_neg h, decide_eq_false h]; rfl
  refine (congrArg (fun z => Scalar.select z _ _) hc).trans ?_
  unfold Y
  split
  · rfl
  · exact bot_bits

/-- The row maximum. -/
theorem row_max (b : Fin 2) (kv : Fin 6) (g : Fin 4) (s : Fin 6144) :
    val_main_v36 (F := Ideal) x1 x3 x6 x7 x0 x2 (ix4 b kv g s) = Finset.univ.sup (Y x0 x1 x2 x3 x6 x7 b kv g s) := by
  have h : val_main_v36 (F := Ideal) x1 x3 x6 x7 x0 x2 (ix4 b kv g s)
      = Finset.univ.fold max (Ideal.ofBits .f32 0xFF800000#32) fun k => val_main_v35 (F := Ideal) x1 x3 x6 x7 x0 x2 (ix5 b kv g s k) := by
    pointwise [val_main_v36, val_main_cst_2]
  rw [h, bot_bits]
  simp only [logits]
  rfl

/-- The exponentials of the row's logits less its maximum. -/
theorem row_exp (b : Fin 2) (kv : Fin 6) (g : Fin 4) (s k : Fin 6144) :
    val_main_v40 (F := Ideal) x1 x3 x6 x7 x0 x2 (ix5 b kv g s k)
      = Ideal.exp (Y x0 x1 x2 x3 x6 x7 b kv g s k - Finset.univ.sup (Y x0 x1 x2 x3 x6 x7 b kv g s)) := by
  have h : val_main_v40 (F := Ideal) x1 x3 x6 x7 x0 x2 (ix5 b kv g s k)
      = Ideal.exp (val_main_v35 (F := Ideal) x1 x3 x6 x7 x0 x2 (ix5 b kv g s k) - val_main_v36 (F := Ideal) x1 x3 x6 x7 x0 x2 (ix4 b kv g s)) := by
    pointwise [val_main_v40, val_main_v39, val_main_v38, val_main_v37]
  rw [h, logits, row_max]

/-- Their sum. -/
theorem row_sum (b : Fin 2) (kv : Fin 6) (g : Fin 4) (s : Fin 6144) :
    val_main_v41 (F := Ideal) x1 x3 x6 x7 x0 x2 (ix4 b kv g s)
      = ∑ k, Ideal.exp (Y x0 x1 x2 x3 x6 x7 b kv g s k - Finset.univ.sup (Y x0 x1 x2 x3 x6 x7 b kv g s)) := by
  rw [val_main_v41_apply, val_main_cst_3_apply]
  have h0 : FloatOps.ofBits (F := Ideal) .f32 0x00000000#32 = (0 : EReal) := Ideal.ofBits_zero_f32
  rw [h0, zero_add]
  refine Finset.sum_congr rfl fun k _ => ?_
  rw [← row_exp]
  refine congrArg _ (funext fun a => Fin.ext ?_)
  match a with
  | 0 => rfl
  | 1 => rfl
  | 2 => rfl
  | 3 => rfl
  | 4 => rfl

/-- The reference's second result: the row's maximum plus the logarithm of its sum. -/
theorem lse (b : Fin 2) (kv : Fin 6) (g : Fin 4) (s : Fin 6144) :
    val_main_v50 (F := Ideal) x1 x3 x6 x7 x0 x2 (ix4 b kv g s)
      = Finset.univ.sup (Y x0 x1 x2 x3 x6 x7 b kv g s)
        + Ideal.log (∑ k, Ideal.exp (Y x0 x1 x2 x3 x6 x7 b kv g s k - Finset.univ.sup (Y x0 x1 x2 x3 x6 x7 b kv g s))) := by
  have hi : idx_main_v50 (ix4 b kv g s) = ix5 b kv g s 0 := by
    funext a
    apply Fin.ext
    match a with
    | 0 => show (((b.val * 6 + kv.val) * 4 + g.val) * 6144 + s.val) / 147456 = b.val; omega
    | 1 => show (((b.val * 6 + kv.val) * 4 + g.val) * 6144 + s.val) / 24576 % 6 = kv.val; omega
    | 2 => show (((b.val * 6 + kv.val) * 4 + g.val) * 6144 + s.val) / 6144 % 4 = g.val; omega
    | 3 => show (((b.val * 6 + kv.val) * 4 + g.val) * 6144 + s.val) / 1 % 6144 = s.val; omega
    | 4 => rfl
  have e42 : idx_main_v42 (ix5 b kv g s 0) = ix4 b kv g s := by
    funext a
    apply Fin.ext
    match a with
    | 0 => rfl
    | 1 => rfl
    | 2 => rfl
    | 3 => rfl
  have e37 : idx_main_v37 (ix5 b kv g s 0) = ix4 b kv g s := e42
  rw [val_main_v50_apply, hi, val_main_v49_apply, val_main_v48_apply, val_main_v42_apply, val_main_v37_apply, e42, e37, row_max, row_sum]
  generalize Finset.univ.sup (Y x0 x1 x2 x3 x6 x7 b kv g s) = M
  generalize (∑ k, Ideal.exp (Y x0 x1 x2 x3 x6 x7 b kv g s k - M)) = L
  rfl

/-- The reference's first result: the row's weights, each the exponential times the sum's reciprocal, against the values,
times the value scales. -/
theorem out (b : Fin 2) (kv : Fin 6) (g : Fin 4) (s : Fin 6144) (d : Fin 160) :
    val_main_v56 (F := Ideal) x1 x3 x5 x6 x7 x0 x2 x4 (ix3 b s ⟨kv.val * 640 + g.val * 160 + d.val, by omega⟩)
      = (∑ k, Ideal.exp (Y x0 x1 x2 x3 x6 x7 b kv g s k - Finset.univ.sup (Y x0 x1 x2 x3 x6 x7 b kv g s))
          * Ideal.div 1 (∑ k, Ideal.exp (Y x0 x1 x2 x3 x6 x7 b kv g s k - Finset.univ.sup (Y x0 x1 x2 x3 x6 x7 b kv g s)))
          * x4 (ix4 b k kv d)) * x5 (ix3 b kv d) := by
  have hi : idx_main_v56 (ix3 b s ⟨kv.val * 640 + g.val * 160 + d.val, by omega⟩) = ix5 b s kv g d := by
    funext a
    apply Fin.ext
    match a with
    | 0 => show ((b.val * 6144 + s.val) * 3840 + (kv.val * 640 + g.val * 160 + d.val)) / 23592960 = b.val; omega
    | 1 => show ((b.val * 6144 + s.val) * 3840 + (kv.val * 640 + g.val * 160 + d.val)) / 3840 % 6144 = s.val; omega
    | 2 => show ((b.val * 6144 + s.val) * 3840 + (kv.val * 640 + g.val * 160 + d.val)) / 640 % 6 = kv.val; omega
    | 3 => show ((b.val * 6144 + s.val) * 3840 + (kv.val * 640 + g.val * 160 + d.val)) / 160 % 4 = g.val; omega
    | 4 => show ((b.val * 6144 + s.val) * 3840 + (kv.val * 640 + g.val * 160 + d.val)) % 160 = d.val; omega
  rw [val_main_v56_apply, hi, ← row_sum]
  simp only [← row_exp]
  pointwise [val_main_v55, val_main_v54, val_main_v53, val_main_v52, val_main_v17, val_main_v51, val_main_v47, val_main_v46, val_main_v45, val_main_v44, val_main_v43, val_main_v42, val_main_cst_4, val_main_v16]

end Math
end Cert.ReferenceIdeal.Refer
-- ==== Proof.Equal.lean ====
module
public import proofs.«01_k».proof.Proof.Final
public import proofs.«01_k».proof.Proof.Refer
@[expose] public section
set_option maxRecDepth 16384
noncomputable section
open Idealize.ShloMosaic Idealize.ShloMosaic.TcCoe Idealize.SL.Sem
namespace Cert.Equal
open Cert.KernelIdeal.Final Cert.Softmax

/-- One logit, in base two with the scale folded and in base e with the scale a quotient: the second is the first times
the logarithm of two, at every extended real. -/
theorem logit (S q k a b : EReal) :
    S * Ideal.div (q * k) ((Real.sqrt 160 : ℝ) : EReal) + a * ((Real.log 2 : ℝ) : EReal) - b * ((Real.log 2 : ℝ) : EReal)
      = (S * (q * k * (((Real.sqrt 160)⁻¹ * (Real.log 2)⁻¹ : ℝ) : EReal)) + (a - b)) * ((Real.log 2 : ℝ) : EReal) := by
  have h2 : (0 : ℝ) < Real.log 2 := Real.log_pos (by norm_num)
  have h160 : Real.sqrt 160 ≠ 0 := by positivity
  rw [Ideal.div_coe h160, EReal.right_distrib_of_nonneg_of_ne_top (by exact_mod_cast h2.le) (EReal.coe_ne_top _), sub_mul_pos h2,
    mul_assoc S, mul_assoc (q * k), ← EReal.coe_mul, mul_assoc (Real.sqrt 160)⁻¹, inv_mul_cancel₀ h2.ne', mul_one, one_div]
  rw [sub_eq_add_neg, sub_eq_add_neg, add_assoc]

section
open Cert.KernelIdeal
variable (m : (ℓ : Loc nD τ sig) → Buf (Elt Ideal) ℓ) (c : Dev nD)

/-- The reference's logits, of the kernel's arguments. -/
abbrev Yk (b : Fin 2) (kv : Fin 6) (g : Fin 4) (s k : Fin 6144) : EReal :=
  Cert.ReferenceIdeal.Refer.Y (aQ m c) (aQs m c) (aK m c) (aKs m c) (aC m c) (aT m c) b kv g s k

/-- Row by row the reference's logits are the kernel's times the logarithm of two. -/
theorem logits_eq (b : Fin 2) (kv : Fin 6) (n : Fin 12) (g : Fin 4) (j : Fin 512) (k : Fin 6144) :
    Yk m c b kv g (at512 n j) k
      = Lane.X n.val (alA m c b kv g) (qA m c b kv n g) (cqA m c b kv n g) (kA m c b kv) (tA m c b kv) g j k * ((Real.log 2 : ℝ) : EReal) := by
  unfold Yk Cert.ReferenceIdeal.Refer.Y Lane.X
  have hs : (at512 n j).val = n.val * 512 + j.val := rfl
  rw [hs]
  split
  · rw [logit]
    exact congrArg (fun S : EReal => (S * _ + _) * _) (Finset.sum_congr rfl fun d _ => mul_comm _ _)
  · exact (EReal.bot_mul_of_pos (by exact_mod_cast Real.log_pos (by norm_num))).symm

/-- The two programs' rows: the log-sum-exp, and each output before the value scale. -/
theorem row_eq (b : Fin 2) (kv : Fin 6) (n : Fin 12) (g : Fin 4) (j : Fin 512) :
    ((fin m c b kv n g).1 (ix2 0 j) + Ideal.log ((fin m c b kv n g).2.1 (ix2 0 j)) * ((Real.log 2)⁻¹ : ℝ)) * (Real.log 2 : ℝ)
      = Finset.univ.sup (Yk m c b kv g (at512 n j))
        + Ideal.log (∑ k, Ideal.exp (Yk m c b kv g (at512 n j) k - Finset.univ.sup (Yk m c b kv g (at512 n j)))) ∧
    ∀ d : Fin 160, (fin m c b kv n g).2.2 (ix2 d j) * Ideal.div 1 ((fin m c b kv n g).2.1 (ix2 0 j))
      = ∑ k, Ideal.exp (Yk m c b kv g (at512 n j) k - Finset.univ.sup (Yk m c b kv g (at512 n j)))
          * Ideal.div 1 (∑ k, Ideal.exp (Yk m c b kv g (at512 n j) k - Finset.univ.sup (Yk m c b kv g (at512 n j))))
          * aV m c (ix4 b k kv d) := by
  obtain ⟨M, hM⟩ := Lane.neg_real
  have h := Lane.head_inv n (alA m c b kv g) (qA m c b kv n g) (cqA m c b kv n g) (kA m c b kv) (vA m c b kv) (tA m c b kv) g j
  rw [hM] at h
  exact Cert.Softmax.row h (logits_eq m c b kv n g j) rfl rfl

/-- A row of the sequence is a row of a block. -/
theorem at512_split (s : Fin 6144) : s = at512 ⟨s.val / 512, by omega⟩ ⟨s.val % 512, by omega⟩ :=
  Fin.ext (by show s.val = s.val / 512 * 512 + s.val % 512; omega)

/-- A column of the output is a column of a head. -/
theorem col_split (y : Fin 3840) : y = col ⟨y.val / 640, by omega⟩ ⟨y.val / 160 % 4, by omega⟩ ⟨y.val % 160, by omega⟩ :=
  Fin.ext (by show y.val = y.val / 640 * 640 + y.val / 160 % 4 * 160 + y.val % 160; omega)

/-- The second result: the reference's, of the kernel's arguments, is the kernel's. -/
theorem lse_eq : Cert.ReferenceIdeal.Read.val_main_v50 (F := Ideal) (aQs m c) (aKs m c) (aC m c) (aT m c) (aQ m c) (aK m c) = G8 m c := by
  have h : ∀ y : S2x6x4x6144.Idx, Cert.ReferenceIdeal.Read.val_main_v50 (F := Ideal) (aQs m c) (aKs m c) (aC m c) (aT m c) (aQ m c) (aK m c) y = G8 m c y := by
    intro y
    idx_vars y
    rw [at512_split y3]
    generalize (⟨y3.val / 512, _⟩ : Fin 12) = n
    generalize (⟨y3.val % 512, _⟩ : Fin 512) = j
    refine (Cert.ReferenceIdeal.Refer.lse (aQ m c) (aQs m c) (aK m c) (aKs m c) (aC m c) (aT m c) y0 y1 y2 (at512 n j)).trans ?_
    rw [G8_apply, Block.lseRow_apply]
    exact (row_eq m c y0 y1 n y2 j).1.symm
  exact funext h

/-- The first result: the reference's, of the kernel's arguments, is the kernel's. -/
theorem out_eq : Cert.ReferenceIdeal.Read.val_main_v56 (F := Ideal) (aQs m c) (aKs m c) (aVs m c) (aC m c) (aT m c) (aQ m c) (aK m c) (aV m c) = G7 m c := by
  have h : ∀ y : S2x6144x3840.Idx, Cert.ReferenceIdeal.Read.val_main_v56 (F := Ideal) (aQs m c) (aKs m c) (aVs m c) (aC m c) (aT m c) (aQ m c) (aK m c) (aV m c) y = G7 m c y := by
    intro y
    idx_vars y
    rw [at512_split y1, col_split y2]
    generalize (⟨y1.val / 512, _⟩ : Fin 12) = n
    generalize (⟨y1.val % 512, _⟩ : Fin 512) = j
    generalize (⟨y2.val / 640, _⟩ : Fin 6) = kv
    generalize (⟨y2.val / 160 % 4, _⟩ : Fin 4) = g
    generalize (⟨y2.val % 160, _⟩ : Fin 160) = d
    refine (Cert.ReferenceIdeal.Refer.out (aQ m c) (aQs m c) (aK m c) (aKs m c) (aV m c) (aVs m c) (aC m c) (aT m c) y0 kv g (at512 n j) d).trans ?_
    rw [G7_apply]
    exact congrArg (fun z : EReal => z * _) ((row_eq m c y0 kv n g j).2 d).symm
  exact funext h
end

end Cert.Equal
-- ==== Proof.Scan.lean ====
module

public import proofs.«01_k».proof.Proof.Gen.GatesIdeal.Value
public import Idealize.ShloMosaic.Lib.Pointwise
public import Idealize.ShloMosaic.Lib.Pipeline.ValueKit
public import Idealize.ShloMosaic.Lib.Claim
public import Idealize.ShloMosaic.Lib.IdealHost
public import Idealize.ShloMosaic.Lib.WordCmp

@[expose] public section

set_option maxRecDepth 16384

noncomputable section

namespace Cert.GatesIdeal.Scan

open Cert.GatesIdeal Cert.GatesIdeal.Gen Idealize.ShloMosaic Idealize.SL.Sem

variable {F : FTy → Type} [FloatOps F] [Named F]

/-- The lane number of every entry of a chunk. -/
def lane : IVec S4x128 32 := iota .tc S4x128 32 [1] iota_S4x128_d1_w32

/-- The base-two log-sigmoid of a chunk of the logits. -/
def logSig (v2 : Vec F S1x1x4x128 .f32) : FVec F S4x128 .f32 :=
  have v3 : FVec F S4x128 .f32 := shapeCast S4x128 v2 shapeCasts_S1x1x4x128_S4x128
  have z : FVec F S4x128 .f32 := broadcast S4x128 (Scalar.ofBits .f32 0x00000000#32)
  have v5 : FVec F S4x128 .f32 := subf z v3
  have v7 : FVec F S4x128 .f32 := maximumf v5 z
  have v9 : FVec F S4x128 .f32 := subf v5 z
  have v10 : IVec S4x128 1 := cmpf .one v9 v9
  have v12 : FVec F S4x128 .f32 := addf v5 z
  have v13 : FVec F S4x128 .f32 := absf v9
  have v15 : FVec F S4x128 .f32 := subf z v13
  have v16 : FVec F S4x128 .f32 := exp v15
  have v17 : FVec F S4x128 .f32 := log1p v16
  have v18 : FVec F S4x128 .f32 := addf v7 v17
  have v19 : FVec F S4x128 .f32 := select v10 v12 v18
  have v21 : FVec F S4x128 .f32 := subf z v19
  mulf v21 (broadcast S4x128 (Named.named κ "log2e" 0x3FB8AA3B#32))

/-- One doubling step of the scan: each lane adds the value `k` lanes before it, if there is one. -/
def step (k : BitVec 32) (x : FVec F S4x128 .f32) : FVec F S4x128 .f32 :=
  addf x (select (cmpi .sge lane (broadcast S4x128 k)) (dynamicRotate 1 k none x rotates_S4x128_d1)
    (broadcast S4x128 (Scalar.ofBits .f32 0x00000000#32)))

/-- The running sums of a chunk, on top of what the chunks before it came to. -/
def chunk (carry : FVec F S4x1 .f32) (v : Vec F S1x1x4x128 .f32) : FVec F S4x128 .f32 :=
  addf (step 64#32 (step 32#32 (step 16#32 (step 8#32 (step 4#32 (step 2#32 (step 1#32 (logSig v))))))))
    (broadcastTo S4x128 carry broadcasts_S4x1_S4x128)

/-- What a chunk hands on to the next: its last lane. -/
def last (x : FVec F S4x128 .f32) : FVec F S4x1 .f32 :=
  extractStridedSlice S4x1 ![0, 127] x slices_S4x128_o0_127_S4x1

/-- The chunk of logits that starts at lane `o`. -/
def part (o : ℕ) (x : Vec F S1x1x4x6144 .f32) : Vec F S1x1x4x128 .f32 :=
  if h : o + 128 ≤ 6144 then View.ld x (Rect.unit (s := S1x1x4x6144) ![0, 0, 0, o] S1x1x4x128.size (by
    intro a; fin_cases a <;> simp [S1x1x4x128, S1x1x4x6144, h])) else fun _ => Scalar.ofBits .f32 0x00000000#32

/-- The running sums of chunk `n`. -/
def sums (x : Vec F S1x1x4x6144 .f32) : ℕ → FVec F S4x128 .f32
  | 0 => chunk (broadcast S4x1 (Scalar.ofBits .f32 0x00000000#32)) (part 0 x)
  | n + 1 => chunk (last (sums x n)) (part ((n + 1) * 128) x)

/-- The pieces of the first result, last first: chunk `n`'s running sums. -/
def pieces1 (x : Vec F S1x1x4x6144 .f32) : List (View.Piece (Elt F) S1x1x4x6144 .f32) :=
  List.ofFn fun n : Fin 48 =>
    ⟨Rect.unit (s := S1x1x4x6144) ![0, 0, 0, (47 - n.val) * 128] S1x1x4x128.size (by
      intro a; fin_cases a <;> simp [S1x1x4x128, S1x1x4x6144]; omega),
     shapeCast S1x1x4x128 (sums x (47 - n.val)) shapeCasts_S4x128_S1x1x4x128⟩

/-- The first result's buffer after the body is those pieces. -/
theorem out1 (x : Vec F S1x1x4x6144 .f32) : out0_1 x = View.canon (pieces1 x) := by
  sl_kernel_rfl

/-- The log-sigmoid as both programs compute it. -/
def L (f : EReal) : EReal := -(max (-f) 0 + Ideal.log1p (Ideal.exp (-(max (-f) (- -f)))))

/-- The base-two log-sigmoid of one logit. -/
def gate (f : EReal) : EReal := L f * (((Real.log 2)⁻¹ : ℝ) : EReal)

/-- A chunk's base-two log-sigmoids, entry by entry. -/
theorem logSig_apply (v : Vec Ideal S1x1x4x128 .f32) (r : Fin 4) (j : Fin 128) :
    logSig v (ix2 r j) = gate (v (ix4 0 0 r j)) := by
  pointwise [logSig]
  rw [if_neg (fun h => h rfl)]
  simp only [zero_sub]
  rfl

/-- One doubling step, entry by entry. -/
theorem step_apply (k : ℕ) (hk : k < 128) (x : FVec Ideal S4x128 .f32) (r : Fin 4) (j : Fin 128) :
    step (BitVec.ofNat 32 k) x (ix2 r j) = x (ix2 r j) + if k ≤ j.val then x (ix2 r ⟨j.val - k, by omega⟩) else 0 := by
  have hj := j.isLt
  pointwise [step, lane]
  rw [Idealize.ShloMosaic.WordCmp.cmpi_sge_ofNat (by omega) (by omega)]
  have hn : (BitVec.ofNat 32 k).toNat = k := by rw [BitVec.toNat_ofNat, Nat.mod_eq_of_lt (by omega)]
  by_cases h : k ≤ j.val
  · have e : (⟨(j.val + 128 - (BitVec.ofNat 32 k).toNat % 128) % 128, Nat.mod_lt _ (by norm_num)⟩ : Fin 128) = ⟨j.val - k, by omega⟩ :=
      Fin.ext (by show (j.val + 128 - (BitVec.ofNat 32 k).toNat % 128) % 128 = j.val - k; rw [hn]; omega)
    rw [e, if_pos h, decide_eq_true h]
    rfl
  · rw [if_neg h, decide_eq_false h]
    rfl

/-- A doubling step doubles the window each lane has summed. -/
theorem step_window (k : ℕ) (hk : k < 128) (f : Fin 4 → ℕ → EReal) (x : FVec Ideal S4x128 .f32)
    (hx : ∀ r j, x (ix2 r j) = ∑ u ∈ Finset.Ico (j.val + 1 - k) (j.val + 1), f r u) (r : Fin 4) (j : Fin 128) :
    step (BitVec.ofNat 32 k) x (ix2 r j) = ∑ u ∈ Finset.Ico (j.val + 1 - 2 * k) (j.val + 1), f r u := by
  rw [step_apply k hk, hx]
  split
  · rename_i h
    rw [hx, add_comm, show j.val - k + 1 = j.val + 1 - k by omega, show j.val + 1 - k - k = j.val + 1 - 2 * k by omega]
    exact Finset.sum_Ico_consecutive _ (by omega) (by omega)
  · rename_i h
    rw [add_zero, show j.val + 1 - k = 0 by omega, show j.val + 1 - 2 * k = 0 by omega]

/-- Seven doubling steps sum every lane up to and including itself. -/
theorem steps (f : Fin 4 → ℕ → EReal) (x : FVec Ideal S4x128 .f32) (hx : ∀ r j, x (ix2 r j) = f r j.val) (r : Fin 4) (j : Fin 128) :
    step 64#32 (step 32#32 (step 16#32 (step 8#32 (step 4#32 (step 2#32 (step 1#32 x)))))) (ix2 r j)
      = ∑ u ∈ Finset.range (j.val + 1), f r u := by
  have h1 := step_window 1 (by norm_num) f x fun r j => by
    rw [hx, Nat.add_sub_cancel, Nat.Ico_succ_singleton, Finset.sum_singleton]
  have h2 := step_window 2 (by norm_num) f _ h1
  have h4 := step_window 4 (by norm_num) f _ h2
  have h8 := step_window 8 (by norm_num) f _ h4
  have h16 := step_window 16 (by norm_num) f _ h8
  have h32 := step_window 32 (by norm_num) f _ h16
  have h64 := step_window 64 (by norm_num) f _ h32 r j
  rw [Finset.range_eq_Ico]
  have hj := j.isLt
  rw [show j.val + 1 - 2 * 64 = 0 by omega] at h64
  exact h64

/-- A chunk's entry: its own running sum and what came before. -/
theorem chunk_apply (carry : FVec Ideal S4x1 .f32) (v : Vec Ideal S1x1x4x128 .f32) (f : Fin 4 → ℕ → EReal)
    (hf : ∀ r (j : Fin 128), gate (v (ix4 0 0 r j)) = f r j.val) (r : Fin 4) (j : Fin 128) :
    chunk carry v (ix2 r j) = (∑ u ∈ Finset.range (j.val + 1), f r u) + carry (ix2 r 0) := by
  rw [← steps f (logSig v) (fun r j => (logSig_apply v r j).trans (hf r j)) r j]
  unfold chunk
  generalize step 64#32 (step 32#32 (step 16#32 (step 8#32 (step 4#32 (step 2#32 (step 1#32 (logSig v))))))) = z
  pointwise

/-- What is handed on is the last lane. -/
theorem last_apply (x : FVec Ideal S4x128 .f32) (r : Fin 4) : last x (ix2 r 0) = x (ix2 r 127) := by
  pointwise [last]

/-- A chunk of logits, entry by entry. -/
theorem part_apply (o : ℕ) (h : o + 128 ≤ 6144) (x : Vec Ideal S1x1x4x6144 .f32) (r : Fin 4) (j : Fin 128) :
    part o x (ix4 0 0 r j) = x (ix4 0 0 r ⟨o + j.val, by omega⟩) := by
  unfold part
  rw [dif_pos h]
  pointwise

/-- The base-two log-sigmoid at row `r` and position `u`, zero past the end. -/
def at' (x : Vec Ideal S1x1x4x6144 .f32) (r : Fin 4) (u : ℕ) : EReal :=
  if h : u < 6144 then gate (x (ix4 0 0 r ⟨u, h⟩)) else 0

/-- The scan over chunks is the scan over positions: chunk `n`'s lane `j` sums every position up to its own. -/
theorem sums_apply (x : Vec Ideal S1x1x4x6144 .f32) : ∀ (n : ℕ) (_ : n < 48) (r : Fin 4) (j : Fin 128),
    sums x n (ix2 r j) = ∑ u ∈ Finset.range (n * 128 + j.val + 1), at' x r u
  | 0, _, r, j => by
    have h := chunk_apply (broadcast S4x1 (Scalar.ofBits .f32 0x00000000#32)) (part 0 x) (fun r u => at' x r u)
      (fun r j => by rw [part_apply 0 (by norm_num), at', dif_pos (by omega)]; simp only [Nat.zero_add]) r j
    refine h.trans ?_
    rw [Nat.zero_mul, Nat.zero_add]
    exact (congrArg _ Ideal.ofBits_zero_f32).trans (add_zero _)
  | n + 1, hn, r, j => by
    have h := chunk_apply (last (sums x n)) (part ((n + 1) * 128) x) (fun r u => at' x r ((n + 1) * 128 + u))
      (fun r j => by rw [part_apply _ (by omega), at', dif_pos (by omega)]) r j
    refine h.trans ?_
    rw [last_apply, sums_apply x n (by omega) r 127, add_comm, show (127 : Fin 128).val = 127 from rfl,
      show n * 128 + 127 + 1 = (n + 1) * 128 by omega, show (n + 1) * 128 + j.val + 1 = (n + 1) * 128 + (j.val + 1) by omega]
    exact (Finset.sum_range_add (at' x r) ((n + 1) * 128) (j.val + 1)).symm

/-- The pieces of the second result, last first: chunk `n`'s running sums, laid the other way. -/
def pieces2 (x : Vec F S1x1x4x6144 .f32) : List (View.Piece (Elt F) S1x1x6144x4 .f32) :=
  List.ofFn fun n : Fin 48 =>
    ⟨Rect.unit (s := S1x1x6144x4) ![0, 0, (47 - n.val) * 128, 0] S1x1x128x4.size (by
      intro a; fin_cases a <;> simp [S1x1x128x4, S1x1x6144x4]; omega),
     shapeCast S1x1x128x4 (transpose S128x4 [1, 0] (sums x (47 - n.val)) transposes_S4x128_p1_0_S128x4) shapeCasts_S128x4_S1x1x128x4⟩

/-- The second result's buffer after the body is those pieces. -/
theorem out2 (x : Vec F S1x1x4x6144 .f32) : out0_2 x = View.canon (pieces2 x) := by
  sl_kernel_rfl

/-- The first result's buffer, entry by entry: every position's sum up to itself. -/
theorem out1_apply (x : Vec Ideal S1x1x4x6144 .f32) (r : Fin 4) (s : Fin 6144) :
    out0_1 x (ix4 0 0 r s) = ∑ u ∈ Finset.range (s.val + 1), at' x r u := by
  have hs := s.isLt
  have hr := r.isLt
  rw [out1]
  refine View.canon_ofFn_unit_eq_of_forall (Val := Elt Ideal) (S := S1x1x4x6144) (e := .f32) (fun n : Fin 48 => ![0, 0, 0, (47 - n.val) * 128]) S1x1x4x128.size _
    (fun n => shapeCast S1x1x4x128 (sums x (47 - n.val)) shapeCasts_S4x128_S1x1x4x128) _ _
    ⟨⟨47 - s.val / 128, by omega⟩, fun a => ?_⟩ ?_
  · fin_cases a
    · exact ⟨le_rfl, Nat.one_pos⟩
    · exact ⟨le_rfl, Nat.one_pos⟩
    · exact ⟨Nat.zero_le _, (Nat.zero_add 4).symm ▸ hr⟩
    · show (47 - (47 - s.val / 128)) * 128 ≤ s.val ∧ s.val < (47 - (47 - s.val / 128)) * 128 + 128
      omega
  · have key : ∀ (n : Fin 48) (y : S1x1x4x128.Idx), r.val = 0 + (y 2).val → s.val = (47 - n.val) * 128 + (y 3).val →
        shapeCast S1x1x4x128 (sums x (47 - n.val)) shapeCasts_S4x128_S1x1x4x128 y = ∑ u ∈ Finset.range (s.val + 1), at' x r u := by
      intro n y h2 h3
      idx_vars y
      obtain rfl : r = y2 := Fin.ext (h2.trans (Nat.zero_add _))
      have h := sums_apply x (47 - n.val) (by omega) r y3
      rw [h3]
      refine Eq.trans ?_ h
      generalize sums x (47 - n.val) = z
      pointwise
    exact fun n y hy => key n y (hy 2) (hy 3)

/-- The second result's buffer, entry by entry. -/
theorem out2_apply (x : Vec Ideal S1x1x4x6144 .f32) (r : Fin 4) (s : Fin 6144) :
    out0_2 x (ix4 0 0 s r) = ∑ u ∈ Finset.range (s.val + 1), at' x r u := by
  have hs := s.isLt
  have hr := r.isLt
  rw [out2]
  refine View.canon_ofFn_unit_eq_of_forall (Val := Elt Ideal) (S := S1x1x6144x4) (e := .f32) (fun n : Fin 48 => ![0, 0, (47 - n.val) * 128, 0]) S1x1x128x4.size _
    (fun n => shapeCast S1x1x128x4 (transpose S128x4 [1, 0] (sums x (47 - n.val)) transposes_S4x128_p1_0_S128x4) shapeCasts_S128x4_S1x1x128x4) _ _
    ⟨⟨47 - s.val / 128, by omega⟩, fun a => ?_⟩ ?_
  · fin_cases a
    · exact ⟨le_rfl, Nat.one_pos⟩
    · exact ⟨le_rfl, Nat.one_pos⟩
    · show (47 - (47 - s.val / 128)) * 128 ≤ s.val ∧ s.val < (47 - (47 - s.val / 128)) * 128 + 128
      omega
    · exact ⟨Nat.zero_le _, (Nat.zero_add 4).symm ▸ hr⟩
  · have key : ∀ (n : Fin 48) (y : S1x1x128x4.Idx), r.val = 0 + (y 3).val → s.val = (47 - n.val) * 128 + (y 2).val →
        shapeCast S1x1x128x4 (transpose S128x4 [1, 0] (sums x (47 - n.val)) transposes_S4x128_p1_0_S128x4) shapeCasts_S128x4_S1x1x128x4 y
          = ∑ u ∈ Finset.range (s.val + 1), at' x r u := by
      intro n y h3 h2
      idx_vars y
      obtain rfl : r = y3 := Fin.ext (h3.trans (Nat.zero_add _))
      have h := sums_apply x (47 - n.val) (by omega) r y2
      rw [h2]
      refine Eq.trans ?_ h
      generalize sums x (47 - n.val) = z
      pointwise
    exact fun n y hy => key n y (hy 3) (hy 2)

end Cert.GatesIdeal.Scan
-- ==== Proof.Prefix.lean ====
module
public import proofs.«01_k».proof.Proof.Scan
@[expose] public section
set_option maxRecDepth 16384
noncomputable section
open Idealize.ShloMosaic Idealize.ShloMosaic.TcCoe Idealize.SL.Sem
namespace Cert.GatesIdeal.Prefix
open Cert.GatesIdeal Cert.GatesIdeal.Gen Cert.GatesIdeal.Value Cert.GatesIdeal.Scan

/-- Query head `r` of key head `kv`. -/
def head (kv : Fin 6) (r : Fin 4) : Fin 24 := ⟨kv.val * 4 + r.val, by omega⟩

/-- The base-two log-sigmoids of one batch and head summed up to a position. -/
def pre (f : Vec Ideal S2x6144x24 .f32) (b : Fin 2) (h : Fin 24) (s : Fin 6144) : EReal :=
  ∑ u ∈ Finset.range (s.val + 1), if hu : u < 6144 then gate (f (ix3 b ⟨u, hu⟩ h)) else 0

variable (m : (ℓ : Loc nD τ sig) → Buf (Elt Ideal) ℓ) (c : Dev nD)

/-- The argument: the gate logits. -/
abbrev aF : Vec Ideal S2x6144x24 .f32 := m ((c : Thread nD τ).loc main_arg0)

/-- Which block of its array each window shows at a point. -/
theorem idx : ∀ t : Fin grid0.N, win0_0.index t = ![(grid0.coords t 0).val, (grid0.coords t 1).val, 0, 0]
    ∧ win0_1.index t = ![(grid0.coords t 0).val, (grid0.coords t 1).val, 0, 0]
    ∧ win0_2.index t = ![(grid0.coords t 0).val, (grid0.coords t 1).val, 0, 0] := by
  decide +kernel

/-- The kernel's operand: the logits with their heads in front. -/
theorem V_v1 : V m c main_v1 = shapeCast S2x6x4x6144 (transpose S2x24x6144 [0, 2, 1] (aF m c) transposes_S2x6144x24_S2x24x6144_0_2_1)
    shapeCasts_S2x24x6144_S2x6x4x6144 := by
  unfold V
  after_results <;> rfl

/-- The kernel's operand, entry by entry. -/
theorem V_apply (b : Fin 2) (kv : Fin 6) (r : Fin 4) (u : Fin 6144) :
    (V m c main_v1 : Vec Ideal S2x6x4x6144 .f32) (ix4 b kv r u) = aF m c (ix3 b u (head kv r)) := by
  rw [V_v1]
  generalize aF m c = f
  have h : shapeCast S2x6x4x6144 (transpose S2x24x6144 [0, 2, 1] f transposes_S2x6144x24_S2x24x6144_0_2_1) shapeCasts_S2x24x6144_S2x6x4x6144 (ix4 b kv r u)
      = transpose S2x24x6144 [0, 2, 1] f transposes_S2x6144x24_S2x24x6144_0_2_1 (ix3 b (head kv r) u) := by
    refine shapeCast_apply _ _ _ (ix3 b (head kv r) u) ?_
    rewrite [Shape.rowMajor_val_three, Shape.rowMajor_val_four]
    show (b.val * 24 + (kv.val * 4 + r.val)) * 6144 + u.val = ((b.val * 6 + kv.val) * 4 + r.val) * 6144 + u.val
    ring
  rw [h]
  pointwise

/-- A point's batch, -/
def pb (t : Fin cfg0.N) : Fin 2 := ⟨(grid0.coords t 0).val, (grid0.coords t 0).isLt⟩
/-- and key head. -/
def pk (t : Fin cfg0.N) : Fin 6 := ⟨(grid0.coords t 1).val, (grid0.coords t 1).isLt⟩

/-- The block a point loads. -/
theorem blk0 (t : Fin cfg0.N) (r : Fin 4) (u : Fin 6144) :
    iblk m c 0 t (ix4 0 0 r u) = aF m c (ix3 (pb t) u (head (pk t) r)) := by
  have he : (win0_0.blk t).view.emb (ix4 0 0 r u) = (ix4 (pb t) (pk t) r u : S2x6x4x6144.Idx) := by
    blk_ext [idx t, pb, pk]
  unfold iblk
  refine Eq.trans ?_ (V_apply m c (pb t) (pk t) r u)
  exact congrArg (V m c main_v1 : Vec Ideal S2x6x4x6144 .f32) he

/-- A point's running sums, of the argument. -/
theorem sums_blk (t : Fin cfg0.N) (r : Fin 4) (s : Fin 6144) :
    ∑ u ∈ Finset.range (s.val + 1), at' (iblk m c 0 t) r u = pre (aF m c) (pb t) (head (pk t) r) s := by
  unfold pre at'
  exact Finset.sum_congr rfl fun u _ => by
    split
    · exact congrArg gate (blk0 m c t r _)
    · rfl

/-- The first result: positions on the last axis. -/
def G1 : Vec Ideal S2x6x4x6144 .f32 := fun y => pre (aF m c) (y 0) (head (y 1) (y 2)) (y 3)
/-- The second result: heads on the last axis. -/
def G2 : Vec Ideal S2x6x6144x4 .f32 := fun y => pre (aF m c) (y 0) (head (y 1) (y 3)) (y 2)

/-- The first array after the run. -/
theorem final1 : (dats m 0 c).arrAt 1 cfg0.N = G1 m c := by
  refine (dats m 0 c).arrAt_eq_of_covers 1 _ (by decide +kernel) fun t hf y => ?_
  blk_simp
  rw [after0_1]
  have h : ∀ y : S1x1x4x6144.Idx, out0_1 (iblk m c 0 t) y = G1 m c ((win0_1.blk t).view.emb y) := by
    intro y
    idx_vars y
    have he : (win0_1.blk t).view.emb (ix4 y0 y1 y2 y3 : S1x1x4x6144.Idx) = (ix4 (pb t) (pk t) y2 y3 : S2x6x4x6144.Idx) := by
      blk_ext [idx t, pb, pk]
    obtain rfl := Fin.fin_one_eq_zero y0
    obtain rfl := Fin.fin_one_eq_zero y1
    refine ((out1_apply (iblk m c 0 t) y2 y3).trans (sums_blk m c t y2 y3)).trans (congrArg (G1 m c) he).symm
  exact h y

/-- The second array after the run. -/
theorem final2 : (dats m 0 c).arrAt 2 cfg0.N = G2 m c := by
  refine (dats m 0 c).arrAt_eq_of_covers 2 _ (by decide +kernel) fun t hf y => ?_
  blk_simp
  rw [after0_2]
  have h : ∀ y : S1x1x6144x4.Idx, out0_2 (iblk m c 0 t) y = G2 m c ((win0_2.blk t).view.emb y) := by
    intro y
    idx_vars y
    have he : (win0_2.blk t).view.emb (ix4 y0 y1 y2 y3 : S1x1x6144x4.Idx) = (ix4 (pb t) (pk t) y2 y3 : S2x6x6144x4.Idx) := by
      blk_ext [idx t, pb, pk]
    obtain rfl := Fin.fin_one_eq_zero y0
    obtain rfl := Fin.fin_one_eq_zero y1
    refine ((out2_apply (iblk m c 0 t) y3 y2).trans (sums_blk m c t y3 y2)).trans (congrArg (G2 m c) he).symm
  exact h y
end Cert.GatesIdeal.Prefix
-- ==== Proof.Cumsum.lean ====
module
public import proofs.«01_k».proof.Proof.Prefix
public import proofs.«01_k».proof.Proof.Gen.GatesReferenceIdeal.Run
public import proofs.«01_k».proof.Proof.Gen.GatesReferenceIdeal.Read
@[expose] public section
set_option maxRecDepth 16384
noncomputable section
open Idealize.ShloMosaic Idealize.ShloMosaic.TcCoe Idealize.SL.Sem
namespace Cert.GatesReferenceIdeal.Refer
open Cert.GatesReferenceIdeal Cert.GatesReferenceIdeal.Gen Cert.GatesReferenceIdeal.Read

/-- The reference's log-sigmoid, entry by entry. -/
theorem logSig (f : Vec Ideal S2x6144x24 .f32) (i : S2x6144x24.Idx) : val_main_v0 (F := Ideal) f i = Cert.GatesIdeal.Scan.L (f i) := by
  rw [val_main_v0_apply, val_main_call0_v1_apply, val_main_call0_call0_v4_apply, val_main_call0_call0_v11_apply, val_main_call0_call0_v1_apply,
    val_main_call0_call0_v10_apply, val_main_call0_call0_v9_apply, val_main_call0_call0_v8_apply, val_main_call0_call0_v7_apply,
    val_main_call0_call0_v3_apply, val_main_call0_v0_apply, val_main_call0_call0_v0_apply, val_main_call0_call0_v2_apply, val_main_call0_call0_cst_apply]
  have hz : (FloatOps.ofBits .f32 0x00000000#32 : Ideal .f32) = (0 : EReal) := Ideal.ofBits_zero_f32
  rw [hz]
  have hc : FloatOps.cmpf .une (FloatOps.subf (FloatOps.hostNegf (f i)) (0 : EReal) : Ideal .f32) (FloatOps.subf (FloatOps.hostNegf (f i)) (0 : EReal) : Ideal .f32) = 0#1 := by
    show Ideal.cmp .une _ _ = 0#1
    simp [Ideal.cmp]
  have hs : (FloatOps.subf (FloatOps.hostNegf (f i)) (0 : EReal) : Ideal .f32) = (-f i : EReal) := sub_zero (-f i : EReal)
  refine (congrArg (fun k => FloatOps.hostNegf (Scalar.select k _ _)) hc).trans ?_
  rw [hs]
  rfl

/-- A left fold that adds is its start and the sum. -/
theorem foldl_add {α : Type} (l : List α) (f : α → EReal) (v : EReal) : l.foldl (fun r n => r + f n) v = v + (l.map f).sum := by
  induction l generalizing v with
  | nil => simp
  | cons a l ih => rw [List.foldl_cons, ih, List.map_cons, List.sum_cons, add_assoc]

/-- The running sum over the second axis, as a window of the whole length padded in front, is the sum of what comes before. -/
theorem cumsum (x : Vec Ideal S2x6144x24 .f32) (b : Fin 2) (s : Fin 6144) (h : Fin 24) :
    Host.reduceWindow (· + ·) ![1, 6144, 1] ![1, 1, 1] ![0, 6143, 0] ![0, 0, 0] x (fun _ : (⟨0, ![]⟩ : Shape).Idx => (0 : EReal))
      reduceWindows_S2x6144x24_S2x6144x24_w1s1p0_0_w6144s1p6143_0_w1s1p0_0 h_S_ (ix3 b s h)
    = ∑ u ∈ Finset.range (s.val + 1), if hu : u < 6144 then x (ix3 b ⟨u, hu⟩ h) else 0 := by
  have hs := s.isLt
  unfold Host.reduceWindow
  refine (foldl_add _ _ _).trans ?_
  rw [zero_add]
  have hN : (⟨3, ![1, 6144, 1]⟩ : Shape).numel = 6144 := by simp [Shape.numel, Fin.prod_univ_succ]
  have hsym : ∀ n : Fin (⟨3, ![1, 6144, 1]⟩ : Shape).numel, (⟨3, ![1, 6144, 1]⟩ : Shape).rowMajor.symm n = ix3 (0 : Fin 1) (n.cast hN) (0 : Fin 1) := fun n =>
    ((⟨3, ![1, 6144, 1]⟩ : Shape).rowMajor.symm_apply_eq).2 (Fin.ext (by
      rw [Shape.rowMajor_val_three]
      show n.val = (0 * 6144 + n.val) * 1 + 0
      omega))
  let G : ℕ → EReal := fun u => if hu : u < 6144 then x (ix3 b ⟨u, hu⟩ h) else 0
  have hmap : ∀ (g : Fin (⟨3, ![1, 6144, 1]⟩ : Shape).numel → EReal), (∀ n, g n = if 6143 ≤ s.val + n.val then G (s.val + n.val - 6143) else 0) →
      ((List.finRange (⟨3, ![1, 6144, 1]⟩ : Shape).numel).map g).sum = ∑ u ∈ Finset.range (s.val + 1), G u := by
    intro g hg
    rw [← Fin.sum_univ_def, Finset.sum_congr rfl (fun n _ => hg n),
      Fin.sum_univ_eq_sum_range (fun n => if 6143 ≤ s.val + n then G (s.val + n - 6143) else 0),
      hN.trans (show 6144 = (6143 - s.val) + (s.val + 1) by omega), Finset.sum_range_add,
      Finset.sum_eq_zero (fun n hn => if_neg (by have := Finset.mem_range.mp hn; omega)), zero_add]
    exact Finset.sum_congr rfl fun u _ => by
      rw [if_pos (by omega), show s.val + (6143 - s.val + u) - 6143 = u by omega]
  refine hmap _ fun n => ?_
  have hn : n.val < 6144 := n.isLt.trans_eq hN
  have h0 : ((⟨3, ![1, 6144, 1]⟩ : Shape).rowMajor.symm n 0).val = 0 := by rw [hsym]; rfl
  have h1 : ((⟨3, ![1, 6144, 1]⟩ : Shape).rowMajor.symm n 1).val = n.val := by rw [hsym]; rfl
  have h2 : ((⟨3, ![1, 6144, 1]⟩ : Shape).rowMajor.symm n 2).val = 0 := by rw [hsym]; rfl
  dsimp only
  split
  · rename_i hin
    have k1 := hin 1
    change 6143 ≤ s.val * 1 + ((⟨3, ![1, 6144, 1]⟩ : Shape).rowMajor.symm n 1).val
      ∧ s.val * 1 + ((⟨3, ![1, 6144, 1]⟩ : Shape).rowMajor.symm n 1).val - 6143 < 6144 at k1
    rw [h1] at k1
    rw [if_pos (by omega)]
    show _ = G (s.val + n.val - 6143)
    have hG : G (s.val + n.val - 6143) = x (ix3 b ⟨s.val + n.val - 6143, by omega⟩ h) := dif_pos (by omega)
    rw [hG]
    refine congrArg x (funext fun a => Fin.ext ?_)
    match a with
    | ⟨0, _⟩ =>
      show b.val * 1 + ((⟨3, ![1, 6144, 1]⟩ : Shape).rowMajor.symm n 0).val - 0 = b.val
      rw [h0]; omega
    | ⟨1, _⟩ =>
      show s.val * 1 + ((⟨3, ![1, 6144, 1]⟩ : Shape).rowMajor.symm n 1).val - 6143 = s.val + n.val - 6143
      rw [h1]; omega
    | ⟨2, _⟩ =>
      show h.val * 1 + ((⟨3, ![1, 6144, 1]⟩ : Shape).rowMajor.symm n 2).val - 0 = h.val
      rw [h2]; omega
  · rename_i hin
    rw [if_neg fun hle => hin fun a => by
      match a with
      | ⟨0, _⟩ =>
        show 0 ≤ b.val * 1 + ((⟨3, ![1, 6144, 1]⟩ : Shape).rowMajor.symm n 0).val ∧ b.val * 1 + ((⟨3, ![1, 6144, 1]⟩ : Shape).rowMajor.symm n 0).val - 0 < 2
        rw [h0]; omega
      | ⟨1, _⟩ =>
        show 6143 ≤ s.val * 1 + ((⟨3, ![1, 6144, 1]⟩ : Shape).rowMajor.symm n 1).val ∧ s.val * 1 + ((⟨3, ![1, 6144, 1]⟩ : Shape).rowMajor.symm n 1).val - 6143 < 6144
        rw [h1]; omega
      | ⟨2, _⟩ =>
        show 0 ≤ h.val * 1 + ((⟨3, ![1, 6144, 1]⟩ : Shape).rowMajor.symm n 2).val ∧ h.val * 1 + ((⟨3, ![1, 6144, 1]⟩ : Shape).rowMajor.symm n 2).val - 0 < 24
        rw [h2]; omega]

/-- A sum times a positive real is the sum of the terms times it. -/
theorem sum_mul_pos {r : ℝ} (hr : 0 ≤ r) (f : ℕ → EReal) (n : ℕ) :
    (∑ u ∈ Finset.range n, f u) * (r : EReal) = ∑ u ∈ Finset.range n, f u * (r : EReal) := by
  induction n with
  | zero => simp
  | succ n ih =>
    rw [Finset.sum_range_succ, Finset.sum_range_succ, EReal.right_distrib_of_nonneg_of_ne_top (by exact_mod_cast hr) (EReal.coe_ne_top _), ih]

/-- The reference's scaled running sum, entry by entry: the sum of the scaled terms. -/
theorem scaled (f : Vec Ideal S2x6144x24 .f32) (b : Fin 2) (s : Fin 6144) (h : Fin 24) :
    val_main_v4 (F := Ideal) f (ix3 b s h) = Cert.GatesIdeal.Prefix.pre f b h s := by
  have hl : (0 : ℝ) < Real.log 2 := Real.log_pos (by norm_num)
  rw [val_main_v4_apply, val_main_v3_apply, val_main_v2_apply, val_main_cst_apply]
  have h2 : (FloatOps.hostUnary .log (FloatOps.ofBits .f32 0x40000000#32 : Ideal .f32) : Ideal .f32) = ((Real.log 2 : ℝ) : EReal) := by
    show Ideal.log (Ideal.ofBits .f32 0x40000000#32) = _
    rw [show Ideal.ofBits .f32 0x40000000#32 = ((2 : ℝ) : EReal) by
      simp [Ideal.ofBits, Ideal.ieee]
      rw [← EReal.coe_mul]
      norm_num]
    exact (Ideal.log_coe 2).trans (if_neg (by norm_num))
  rw [h2]
  have h1 : val_main_v1 (F := Ideal) f (ix3 b s h) = ∑ u ∈ Finset.range (s.val + 1), if hu : u < 6144 then val_main_v0 (F := Ideal) f (ix3 b ⟨u, hu⟩ h) else 0 := by
    refine Eq.trans ?_ (cumsum (val_main_v0 (F := Ideal) f) b s h)
    unfold val_main_v1 Host.reduceWindowAdd
    generalize val_main_v0 (F := Ideal) f = z
    have hz : val_main_call1_call0_v0 (F := Ideal) (Shape.Idx.first h_S_) = (0 : EReal) := by
      rw [val_main_call1_call0_v0_apply, val_main_call1_call0_cst_apply]
      exact Ideal.ofBits_zero_f32
    rw [hz]
    show Ideal.hostReduceWindowAdd _ _ _ _ _ z (0 : EReal) _ = _
    unfold Ideal.hostReduceWindowAdd
    with_reducible rfl
  rw [h1]
  show Ideal.div _ _ = _
  rw [Ideal.div_coe hl.ne', sum_mul_pos (by positivity)]
  unfold Cert.GatesIdeal.Prefix.pre Cert.GatesIdeal.Scan.gate
  refine Finset.sum_congr rfl fun u _ => ?_
  split
  · rw [logSig, one_div]
  · exact zero_mul _

/-- The running sums with the heads split by key head, entry by entry. -/
theorem split (f : Vec Ideal S2x6144x24 .f32) (b : Fin 2) (kv : Fin 6) (r : Fin 4) (s : Fin 6144) :
    val_main_v5 (F := Ideal) f (ix4 b s kv r) = Cert.GatesIdeal.Prefix.pre f b (Cert.GatesIdeal.Prefix.head kv r) s := by
  rw [val_main_v5_apply]
  refine Eq.trans (congrArg (val_main_v4 (F := Ideal) f) (?_ : _ = ix3 b s (Cert.GatesIdeal.Prefix.head kv r))) (scaled f b s _)
  funext a
  refine Fin.ext ?_
  have hb := b.isLt
  have hs := s.isLt
  have hk := kv.isLt
  have hr := r.isLt
  match a with
  | ⟨0, _⟩ =>
    show (((b.val * 6144 + s.val) * 6 + kv.val) * 4 + r.val) / 147456 = b.val
    omega
  | ⟨1, _⟩ =>
    show (((b.val * 6144 + s.val) * 6 + kv.val) * 4 + r.val) / 24 % 6144 = s.val
    omega
  | ⟨2, _⟩ =>
    show (((b.val * 6144 + s.val) * 6 + kv.val) * 4 + r.val) % 24 = kv.val * 4 + r.val
    omega

/-- The first result: positions on the last axis. -/
theorem first (f : Vec Ideal S2x6144x24 .f32) : val_main_v6 (F := Ideal) f
    = (fun y => Cert.GatesIdeal.Prefix.pre f (y 0) (Cert.GatesIdeal.Prefix.head (y 1) (y 2)) (y 3) : Vec Ideal S2x6x4x6144 .f32) := by
  have h : ∀ y : S2x6x4x6144.Idx, val_main_v6 (F := Ideal) f y = Cert.GatesIdeal.Prefix.pre f (y 0) (Cert.GatesIdeal.Prefix.head (y 1) (y 2)) (y 3) := by
    intro y
    idx_vars y
    refine Eq.trans ?_ (split f y0 y1 y2 y3)
    rw [val_main_v6_apply]
    exact congrArg (val_main_v5 (F := Ideal) f) (funext fun a => by fin_cases a <;> rfl)
  exact funext h

/-- The second result: heads on the last axis. -/
theorem second (f : Vec Ideal S2x6144x24 .f32) : val_main_v7 (F := Ideal) f
    = (fun y => Cert.GatesIdeal.Prefix.pre f (y 0) (Cert.GatesIdeal.Prefix.head (y 1) (y 3)) (y 2) : Vec Ideal S2x6x6144x4 .f32) := by
  have h : ∀ y : S2x6x6144x4.Idx, val_main_v7 (F := Ideal) f y = Cert.GatesIdeal.Prefix.pre f (y 0) (Cert.GatesIdeal.Prefix.head (y 1) (y 3)) (y 2) := by
    intro y
    idx_vars y
    refine Eq.trans ?_ (split f y0 y1 y3 y2)
    rw [val_main_v7_apply]
    exact congrArg (val_main_v5 (F := Ideal) f) (funext fun a => by fin_cases a <;> rfl)
  exact funext h

end Cert.GatesReferenceIdeal.Refer
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Gates.Frame
public import proofs.«01_k».proof.Proof.Gen.GatesIdeal.Frame
public import proofs.«01_k».proof.Proof.Gen.GatesIdeal.Value
public import proofs.«01_k».proof.Proof.Gen.GatesReferenceIdeal.Run
public import proofs.«01_k».proof.Proof.Gen.GatesReferenceIdeal.Read
public import proofs.«01_k».proof.Proof.Equal
public import proofs.«01_k».proof.Proof.Prefix
public import proofs.«01_k».proof.Proof.Cumsum
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference's second result at the end of its run, of its arguments. -/
theorem ref_lse (m : (ℓ : Loc Cert.ReferenceIdeal.nD Cert.ReferenceIdeal.τ Cert.ReferenceIdeal.sig) → Buf (Elt Ideal) ℓ) (c : Dev Cert.ReferenceIdeal.nD) :
    Cert.ReferenceIdeal.Read.val_main_v50 (F := Ideal) (Cert.ReferenceIdeal.Value.exitV m c (Proc.devRef .tc Cert.ReferenceIdeal.main_arg1))
      (Cert.ReferenceIdeal.Value.exitV m c (Proc.devRef .tc Cert.ReferenceIdeal.main_arg3)) (Cert.ReferenceIdeal.Value.exitV m c (Proc.devRef .tc Cert.ReferenceIdeal.main_arg6))
      (Cert.ReferenceIdeal.Value.exitV m c (Proc.devRef .tc Cert.ReferenceIdeal.main_arg7)) (Cert.ReferenceIdeal.Value.exitV m c (Proc.devRef .tc Cert.ReferenceIdeal.main_v0_0))
      (Cert.ReferenceIdeal.Value.exitV m c (Proc.devRef .tc Cert.ReferenceIdeal.main_v0_1))
    = Cert.ReferenceIdeal.Read.val_main_v50 (F := Ideal) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
      (Cert.ReferenceIdeal.Refer.aQ m c) (Cert.ReferenceIdeal.Refer.aK m c) := by
  rw [Cert.ReferenceIdeal.Value.exit_main_arg1, Cert.ReferenceIdeal.Value.exit_main_arg3, Cert.ReferenceIdeal.Value.exit_main_arg6, Cert.ReferenceIdeal.Value.exit_main_arg7,
    Cert.ReferenceIdeal.Value.exit_main_v0_0, Cert.ReferenceIdeal.Value.exit_main_v0_1]
  unfold Cert.ReferenceIdeal.Value.reg_main_v0_0 Cert.ReferenceIdeal.Value.reg_main_v0_1
  rw [Cert.ReferenceIdeal.Refer.region_q, Cert.ReferenceIdeal.Refer.region_k]

/-- The reference's first result at the end of its run, of its arguments. -/
theorem ref_out (m : (ℓ : Loc Cert.ReferenceIdeal.nD Cert.ReferenceIdeal.τ Cert.ReferenceIdeal.sig) → Buf (Elt Ideal) ℓ) (c : Dev Cert.ReferenceIdeal.nD) :
    Cert.ReferenceIdeal.Read.val_main_v56 (F := Ideal) (Cert.ReferenceIdeal.Value.exitV m c (Proc.devRef .tc Cert.ReferenceIdeal.main_arg1))
      (Cert.ReferenceIdeal.Value.exitV m c (Proc.devRef .tc Cert.ReferenceIdeal.main_arg3)) (Cert.ReferenceIdeal.Value.exitV m c (Proc.devRef .tc Cert.ReferenceIdeal.main_arg5))
      (Cert.ReferenceIdeal.Value.exitV m c (Proc.devRef .tc Cert.ReferenceIdeal.main_arg6))
      (Cert.ReferenceIdeal.Value.exitV m c (Proc.devRef .tc Cert.ReferenceIdeal.main_arg7)) (Cert.ReferenceIdeal.Value.exitV m c (Proc.devRef .tc Cert.ReferenceIdeal.main_v0_0))
      (Cert.ReferenceIdeal.Value.exitV m c (Proc.devRef .tc Cert.ReferenceIdeal.main_v0_1)) (Cert.ReferenceIdeal.Value.exitV m c (Proc.devRef .tc Cert.ReferenceIdeal.main_v0_2))
    = Cert.ReferenceIdeal.Read.val_main_v56 (F := Ideal) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg5))
      (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
      (Cert.ReferenceIdeal.Refer.aQ m c) (Cert.ReferenceIdeal.Refer.aK m c) (Cert.ReferenceIdeal.Refer.aV m c) := by
  rw [Cert.ReferenceIdeal.Value.exit_main_arg1, Cert.ReferenceIdeal.Value.exit_main_arg3, Cert.ReferenceIdeal.Value.exit_main_arg5, Cert.ReferenceIdeal.Value.exit_main_arg6, Cert.ReferenceIdeal.Value.exit_main_arg7,
    Cert.ReferenceIdeal.Value.exit_main_v0_0, Cert.ReferenceIdeal.Value.exit_main_v0_1, Cert.ReferenceIdeal.Value.exit_main_v0_2]
  unfold Cert.ReferenceIdeal.Value.reg_main_v0_0 Cert.ReferenceIdeal.Value.reg_main_v0_1 Cert.ReferenceIdeal.Value.reg_main_v0_2
  rw [Cert.ReferenceIdeal.Refer.region_q, Cert.ReferenceIdeal.Refer.region_k, Cert.ReferenceIdeal.Refer.region_v]

/-- From memories holding the same arguments the kernel and the reference leave the same two results. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Final.G7 m c, fun c => Cert.KernelIdeal.Final.G8 m c, ?_, ?_⟩
  · refine (θ_run _ _ _).mono (fun r h c => ?_) (Cert.KernelIdeal.Value.run_blocks m g)
    obtain ⟨h7, h8, hrest⟩ := h c
    exact ⟨h7.trans (Cert.KernelIdeal.Final.final7 m c), h8.trans (Cert.KernelIdeal.Final.final8 m c), hrest⟩
  · refine (θ_run _ _ _).mono (fun r h c => ?_) (Cert.ReferenceIdeal.Value.run m' g')
    obtain ⟨h56, h50, hrest⟩ := h c
    obtain ⟨e0, e1, e2, e3, e4, e5, e6, e7⟩ := hargs c
    refine ⟨(h56.trans ((Cert.ReferenceIdeal.Read.val_main_v56_eq (Cert.ReferenceIdeal.Value.exitV m' c)).trans (ref_out m' c))).trans ?_,
      (h50.trans ((Cert.ReferenceIdeal.Read.val_main_v50_eq (Cert.ReferenceIdeal.Value.exitV m' c)).trans (ref_lse m' c))).trans ?_, hrest⟩
    · unfold Cert.ReferenceIdeal.Refer.aQ Cert.ReferenceIdeal.Refer.aK Cert.ReferenceIdeal.Refer.aV
      rw [e0, e1, e2, e3, e4, e5, e6, e7]
      exact Cert.Equal.out_eq m c
    · unfold Cert.ReferenceIdeal.Refer.aQ Cert.ReferenceIdeal.Refer.aK
      rw [e0, e1, e2, e3, e6, e7]
      exact Cert.Equal.lse_eq m c

/-- From memories holding the same gate logits the gates kernel and its reference leave the same two layouts of running sums. -/
theorem gates : Cert.algebraic_GatesIdeal_GatesReferenceIdeal (hGatesIdeal := Cert.GatesIdeal.Gen.facts) (hGatesReferenceIdeal := Cert.GatesReferenceIdeal.Gen.facts) := by
  intro m g m' g' _ hargs
  refine ⟨fun c => Cert.GatesIdeal.Prefix.G1 m c, fun c => Cert.GatesIdeal.Prefix.G2 m c, ?_, ?_⟩
  · refine (θ_run _ _ _).mono (fun r h c => ?_) (Cert.GatesIdeal.Value.run_blocks m g)
    obtain ⟨h1, h2, hrest⟩ := h c
    exact ⟨h1.trans (Cert.GatesIdeal.Prefix.final1 m c), h2.trans (Cert.GatesIdeal.Prefix.final2 m c), hrest⟩
  · refine (θ_run _ _ _).mono (fun r h c => ?_) (Cert.GatesReferenceIdeal.Value.run m' g')
    obtain ⟨h6, h7, hrest⟩ := h c
    refine ⟨h6.trans ((Cert.GatesReferenceIdeal.Read.val_main_v6_eq _).trans ?_), h7.trans ((Cert.GatesReferenceIdeal.Read.val_main_v7_eq _).trans ?_), hrest⟩
    · rw [hargs c]
      exact Cert.GatesReferenceIdeal.Refer.first (Cert.GatesIdeal.Prefix.aF m c)
    · rw [hargs c]
      exact Cert.GatesReferenceIdeal.Refer.second (Cert.GatesIdeal.Prefix.aF m c)

/-- The gates' reference runs, changes no argument, and has no semaphore to leave raised. -/
theorem ref_frame : Cert.quiescent_GatesReferenceIdeal (hGatesReferenceIdeal := Cert.GatesReferenceIdeal.Gen.facts) := by
  intro m g _
  refine (θ_run _ _ _).mono (fun r h => ⟨fun c => (h c).2.2, Idealize.ShloMosaic.sem_eq_zero_of_no_sems rfl _⟩) (Cert.GatesReferenceIdeal.Value.run m g)

/-- The six frames, what naming the constants preserves in each call, and the two value claims. -/
theorem claim : Cert.Claim := ⟨Cert.Kernel.Gen.facts, Cert.KernelIdeal.Gen.facts, Cert.ReferenceIdeal.Gen.facts,
  Cert.Gates.Gen.facts, Cert.GatesIdeal.Gen.facts, Cert.GatesReferenceIdeal.Gen.facts,
  fun m ρ _ => Cert.Kernel.Gen.frame m ρ, fun m ρ _ => Cert.KernelIdeal.Gen.frame m ρ, fun m ρ _ => Cert.ReferenceIdeal.Gen.frame m ρ,
  fun m ρ _ => Cert.Gates.Gen.frame m ρ, fun m ρ _ => Cert.GatesIdeal.Gen.frame m ρ, ref_frame,
  ⟨IdealRules.named_const.statement Cert.KernelIdeal.κ "scale_log2e" .f32 0x3DE995B3#32 (((Real.sqrt 160)⁻¹ * (Real.log 2)⁻¹ : ℝ) : EReal) rfl,
    IdealRules.named_const.statement Cert.KernelIdeal.κ "log2e" .f32 0x3FB8AA3B#32 (((Real.log 2)⁻¹ : ℝ) : EReal) rfl,
    IdealRules.named_const.statement Cert.KernelIdeal.κ "ln2" .f32 0x3F317218#32 ((Real.log 2 : ℝ) : EReal) rfl⟩,
  algebraic,
  IdealRules.named_const.statement Cert.GatesIdeal.κ "log2e" .f32 0x3FB8AA3B#32 (((Real.log 2)⁻¹ : ℝ) : EReal) rfl,
  gates⟩

end Cert.Proof

end
